-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_enough_candidates [hPre_enough_candidates : Cert.Pre_enough_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_enough_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_candidates [hPre_enough_candidates : Cert.Pre_enough_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_enough_candidates [hKernelIdeal : Cert.KernelIdeal.Facts] [hPre_enough_candidates : Cert.Pre_enough_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_candidates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_enough_candidates [hReferenceIdeal : Cert.ReferenceIdeal.Facts] [hPre_enough_candidates : Cert.Pre_enough_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_enough_candidates [hKernelIdeal : Cert.KernelIdeal.Facts] [hReferenceIdeal : Cert.ReferenceIdeal.Facts] [hPre_enough_candidates : Cert.Pre_enough_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_enough_candidates : Cert.Pre_enough_candidates.Facts),
    quiescent_Kernel (hKernel := hKernel)
    ∧ quiescent_KernelIdeal (hKernelIdeal := hKernelIdeal)
    ∧ quiescent_KernelIdeal_pre_enough_candidates (hKernelIdeal := hKernelIdeal) (hPre_enough_candidates := hPre_enough_candidates)
    ∧ quiescent_ReferenceIdeal (hReferenceIdeal := hReferenceIdeal)
    ∧ quiescent_ReferenceIdeal_pre_enough_candidates (hReferenceIdeal := hReferenceIdeal) (hPre_enough_candidates := hPre_enough_candidates)
    ∧ preserves_Kernel_KernelIdeal
    ∧ algebraic_KernelIdeal_ReferenceIdeal_pre_enough_candidates (hKernelIdeal := hKernelIdeal) (hReferenceIdeal := hReferenceIdeal) (hPre_enough_candidates := hPre_enough_candidates)
-- ==== Pre_enough_candidates.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩

class Facts : Prop where
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S_S20000 : S_.BroadcastsInDim S20000 (![] : Fin 0 → Fin S20000.rank)
  sliceFits_S20000_S2000 : S20000.Slices (fun _ => 0) S2000
  bcast_S_S2000 : S_.BroadcastsInDim S2000 (![] : Fin 0 → Fin S2000.rank)

variable [Facts]

def fn_where {F : FTy → Type} [FloatOps F] (arg0 : IVec S20000 1) (arg1 : FVec F S20000 .f32) (arg2 : FVec F S_ .f32) : FVec F S20000 .f32 :=
  let v0 : FVec F S_ .f32 := id arg2
  let v1 : FVec F S20000 .f32 := broadcastInDim S20000 ![] bcast_S_S20000 v0
  let v2 : FVec F S20000 .f32 := select arg0 arg1 v1
  v2

def fn {F : FTy → Type} [FloatOps F] (main_arg0 : FVec F S20000x4 .f32) (main_arg1 : FVec F S20000 .f32) : IVec S2000 1 :=
  let main_v0 : FVec F S20000x1 .f32 := (extractStridedSlice S20000x1 ![0, 2] · slices_S20000x4_S20000x1_0_2) main_arg0
  let main_v1 : FVec F S20000 .f32 := shapeCast S20000 main_v0 shapeCasts_S20000x1_S20000
  let main_v2 : FVec F S20000x1 .f32 := (extractStridedSlice S20000x1 ![0, 0] · slices_S20000x4_S20000x1_0_0) main_arg0
  let main_v3 : FVec F S20000 .f32 := shapeCast S20000 main_v2 shapeCasts_S20000x1_S20000
  let main_v4 : FVec F S20000 .f32 := subf main_v1 main_v3
  let main_v5 : FVec F S20000x1 .f32 := (extractStridedSlice S20000x1 ![0, 3] · slices_S20000x4_S20000x1_0_3) main_arg0
  let main_v6 : FVec F S20000 .f32 := shapeCast S20000 main_v5 shapeCasts_S20000x1_S20000
  let main_v7 : FVec F S20000x1 .f32 := (extractStridedSlice S20000x1 ![0, 1] · slices_S20000x4_S20000x1_0_1) main_arg0
  let main_v8 : FVec F S20000 .f32 := shapeCast S20000 main_v7 shapeCasts_S20000x1_S20000
  let main_v9 : FVec F S20000 .f32 := subf main_v6 main_v8
  let main_cst : FVec F S_ .f32 := constant S_ .f32 0x00000000#32
  let main_v10 : FVec F S20000 .f32 := broadcastInDim S20000 ![] bcast_S_S20000 main_cst
  let main_v11 : IVec S20000 1 := cmpf .oge main_v4 main_v10
  let main_cst_0 : FVec F S_ .f32 := constant S_ .f32 0x00000000#32
  let main_v12 : FVec F S20000 .f32 := broadcastInDim S20000 ![] bcast_S_S20000 main_cst_0
  let main_v13 : IVec S20000 1 := cmpf .oge main_v9 main_v12
  let main_v14 : IVec S20000 1 := andi main_v11 main_v13
  let main_cst_1 : FVec F S_ .f32 := constant S_ .f32 0xFF800000#32
  let main_v15 : FVec F S20000 .f32 := fn_where (F := F) main_v14 main_arg1 main_cst_1
  let main_values : FVec F S2000 .f32 := (fun x => (Host.topK S2000 0 (FloatOps.cmpfTotal .gt) x sliceFits_S20000_S2000).1) main_v15
  let main_indices : IVec S2000 32 := (fun x => (Host.topK S2000 0 (FloatOps.cmpfTotal .gt) x sliceFits_S20000_S2000).2) main_v15
  let main_cst_2 : FVec F S_ .f32 := constant S_ .f32 0xFF800000#32
  let main_v16 : FVec F S2000 .f32 := broadcastInDim S2000 ![] bcast_S_S2000 main_cst_2
  let main_v17 : IVec S2000 1 := cmpf .ogt main_values main_v16
  main_v17
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S2048x4 : Shape := ⟨2, ![2048, 4]⟩
abbrev S1 : Shape := ⟨1, ![1]⟩
abbrev S2048x1 : Shape := ⟨2, ![2048, 1]⟩
abbrev S2048 : Shape := ⟨1, ![2048]⟩
abbrev S1x2048 : Shape := ⟨2, ![1, 2048]⟩
abbrev S256x2048 : Shape := ⟨2, ![256, 2048]⟩
abbrev S1x256 : Shape := ⟨2, ![1, 256]⟩
abbrev S256x1 : Shape := ⟨2, ![256, 1]⟩
abbrev S1x1x256 : Shape := ⟨3, ![1, 1, 256]⟩
abbrev S1x1x1 : Shape := ⟨3, ![1, 1, 1]⟩
abbrev S1x2000 : Shape := ⟨2, ![1, 2000]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 98
  | .vmem => 10
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x1, .f32⟩
  | .hbm, ⟨3, _⟩ => ⟨S20000, .f32⟩
  | .hbm, ⟨4, _⟩ => ⟨S20000x1, .f32⟩
  | .hbm, ⟨5, _⟩ => ⟨S20000, .f32⟩
  | .hbm, ⟨6, _⟩ => ⟨S20000, .f32⟩
  | .hbm, ⟨7, _⟩ => ⟨S20000x1, .f32⟩
  | .hbm, ⟨8, _⟩ => ⟨S20000, .f32⟩
  | .hbm, ⟨9, _⟩ => ⟨S20000x1, .f32⟩
  | .hbm, ⟨10, _⟩ => ⟨S20000, .f32⟩
  | .hbm, ⟨11, _⟩ => ⟨S20000, .f32⟩
  | .hbm, ⟨12, _⟩ => ⟨S_, .f32⟩
  | .hbm, ⟨13, _⟩ => ⟨S20000, .f32⟩
  | .hbm, ⟨14, _⟩ => ⟨S20000, .i1⟩
  | .hbm, ⟨15, _⟩ => ⟨S_, .f32⟩
  | .hbm, ⟨16, _⟩ => ⟨S20000, .f32⟩
  | .hbm, ⟨17, _⟩ => ⟨S20000, .i1⟩
  | .hbm, ⟨18, _⟩ => ⟨S20000, .i1⟩
  | .hbm, ⟨19, _⟩ => ⟨S_, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S2000, .f32⟩
  | .hbm, ⟨24, _⟩ => ⟨S2000, .i32⟩
  | .hbm, ⟨25, _⟩ => ⟨S_, .i32⟩
  | .hbm, ⟨26, _⟩ => ⟨S2000, .i32⟩
  | .hbm, ⟨27, _⟩ => ⟨S2000, .i1⟩
  | .hbm, ⟨28, _⟩ => ⟨S_, .i32⟩
  | .hbm, ⟨29, _⟩ => ⟨S2000, .i32⟩
  | .hbm, ⟨30, _⟩ => ⟨S2000, .i32⟩
  | .hbm, ⟨31, _⟩ => ⟨S2000, .i32⟩
  | .hbm, ⟨32, _⟩ => ⟨S2000x1, .i32⟩
  | .hbm, ⟨33, _⟩ => ⟨S2000x4, .f32⟩
  | .hbm, ⟨34, _⟩ => ⟨S_, .f32⟩
  | .hbm, ⟨35, _⟩ => ⟨S2048x4, .f32⟩
  | .hbm, ⟨36, _⟩ => ⟨S_, .i32⟩
  | .hbm, ⟨37, _⟩ => ⟨S1, .i32⟩
  | .hbm, ⟨38, _⟩ => ⟨S2048x4, .f32⟩
  | .hbm, ⟨39, _⟩ => ⟨S2048x1, .f32⟩
  | .hbm, ⟨40, _⟩ => ⟨S2048, .f32⟩
  | .hbm, ⟨41, _⟩ => ⟨S1x2048, .f32⟩
  | .hbm, ⟨42, _⟩ => ⟨S2048x1, .f32⟩
  | .hbm, ⟨43, _⟩ => ⟨S2048, .f32⟩
  | .hbm, ⟨44, _⟩ => ⟨S1x2048, .f32⟩
  | .hbm, ⟨45, _⟩ => ⟨S2048x1, .f32⟩
  | .hbm, ⟨46, _⟩ => ⟨S2048, .f32⟩
  | .hbm, ⟨47, _⟩ => ⟨S1x2048, .f32⟩
  | .hbm, ⟨48, _⟩ => ⟨S2048x1, .f32⟩
  | .hbm, ⟨49, _⟩ => ⟨S2048, .f32⟩
  | .hbm, ⟨50, _⟩ => ⟨S1x2048, .f32⟩
  | .hbm, ⟨51, _⟩ => ⟨S2048x1, .f32⟩
  | .hbm, ⟨52, _⟩ => ⟨S2048, .f32⟩
  | .hbm, ⟨53, _⟩ => ⟨S2048x1, .f32⟩
  | .hbm, ⟨54, _⟩ => ⟨S2048x1, .f32⟩
  | .hbm, ⟨55, _⟩ => ⟨S2048, .f32⟩
  | .hbm, ⟨56, _⟩ => ⟨S2048x1, .f32⟩
  | .hbm, ⟨57, _⟩ => ⟨S2048x1, .f32⟩
  | .hbm, ⟨58, _⟩ => ⟨S2048, .f32⟩
  | .hbm, ⟨59, _⟩ => ⟨S2048x1, .f32⟩
  | .hbm, ⟨60, _⟩ => ⟨S2048x1, .f32⟩
  | .hbm, ⟨61, _⟩ => ⟨S2048, .f32⟩
  | .hbm, ⟨62, _⟩ => ⟨S2048x1, .f32⟩
  | .hbm, ⟨63, _⟩ => ⟨S1x2048, .f32⟩
  | .hbm, ⟨64, _⟩ => ⟨S1x2000, .f32⟩
  | .hbm, ⟨65, _⟩ => ⟨S2000, .f32⟩
  | .hbm, ⟨66, _⟩ => ⟨S_, .f32⟩
  | .hbm, ⟨67, _⟩ => ⟨S2000, .f32⟩
  | .hbm, ⟨68, _⟩ => ⟨S2000, .i1⟩
  | .hbm, ⟨69, _⟩ => ⟨S2000, .i32⟩
  | .hbm, ⟨70, _⟩ => ⟨S_, .i32⟩
  | .hbm, ⟨71, _⟩ => ⟨S2000, .i32⟩
  | .hbm, ⟨72, _⟩ => ⟨S2000, .i32⟩
  | .hbm, ⟨73, _⟩ => ⟨S2000, .i32⟩
  | .hbm, ⟨74, _⟩ => ⟨S2000, .i32⟩
  | .hbm, ⟨75, _⟩ => ⟨S2000, .i32⟩
  | .hbm, ⟨76, _⟩ => ⟨S2000, .i32⟩
  | .hbm, ⟨77, _⟩ => ⟨S1000, .i32⟩
  | .hbm, ⟨78, _⟩ => ⟨S_, .i32⟩
  | .hbm, ⟨79, _⟩ => ⟨S1000, .i32⟩
  | .hbm, ⟨80, _⟩ => ⟨S1000, .i1⟩
  | .hbm, ⟨81, _⟩ => ⟨S_, .i32⟩
  | .hbm, ⟨82, _⟩ => ⟨S1000, .i32⟩
  | .hbm, ⟨83, _⟩ => ⟨S1000, .i32⟩
  | .hbm, ⟨84, _⟩ => ⟨S1000, .i32⟩
  | .hbm, ⟨85, _⟩ => ⟨S1000x1, .i32⟩
  | .hbm, ⟨86, _⟩ => ⟨S1000x4, .f32⟩
  | .hbm, ⟨87, _⟩ => ⟨S_, .i32⟩
  | .hbm, ⟨88, _⟩ => ⟨S1000, .i32⟩
  | .hbm, ⟨89, _⟩ => ⟨S1000, .i1⟩
  | .hbm, ⟨90, _⟩ => ⟨S_, .i32⟩
  | .hbm, ⟨91, _⟩ => ⟨S1000, .i32⟩
  | .hbm, ⟨92, _⟩ => ⟨S1000, .i32⟩
  | .hbm, ⟨93, _⟩ => ⟨S1000, .i32⟩
  | .hbm, ⟨94, _⟩ => ⟨S1000x1, .i32⟩
  | .hbm, ⟨95, _⟩ => ⟨S1000, .f32⟩
  | .hbm, ⟨96, _⟩ => ⟨S1000x1, .f32⟩
  | .hbm, ⟨97, _⟩ => ⟨S1000x5, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S1x2048, .f32⟩
  | .local _ .vmem, ⟨9, _⟩ => ⟨S256x2048, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_v15 : Ref sig .tc := ⟨.hbm, 54, rfl⟩
abbrev main_call1_v16 : Ref sig .tc := ⟨.hbm, 55, rfl⟩
abbrev main_call1_v17 : Ref sig .tc := ⟨.hbm, 56, rfl⟩
abbrev main_call1_v18 : Ref sig .tc := ⟨.hbm, 57, rfl⟩
abbrev main_call1_v19 : Ref sig .tc := ⟨.hbm, 58, rfl⟩
abbrev main_call1_v20 : Ref sig .tc := ⟨.hbm, 59, rfl⟩
abbrev main_call1_v21 : Ref sig .tc := ⟨.hbm, 60, rfl⟩
abbrev main_call1_v22 : Ref sig .tc := ⟨.hbm, 61, rfl⟩
abbrev main_call1_v23 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_5 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_6 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call3_v0 : Ref sig .tc := ⟨.hbm, 74, rfl⟩
abbrev main_call3_v1_0 : Ref sig .tc := ⟨.hbm, 75, rfl⟩
abbrev main_v35 : Ref sig .tc := ⟨.hbm, 76, rfl⟩
abbrev main_v36 : Ref sig .tc := ⟨.hbm, 77, rfl⟩
abbrev main_c_7 : Ref sig .tc := ⟨.hbm, 78, rfl⟩
abbrev main_v37 : Ref sig .tc := ⟨.hbm, 79, rfl⟩
abbrev main_v38 : Ref sig .tc := ⟨.hbm, 80, rfl⟩
abbrev main_c_8 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_9 : Ref sig .tc := ⟨.hbm, 87, rfl⟩
abbrev main_v44 : Ref sig .tc := ⟨.hbm, 88, rfl⟩
abbrev main_v45 : Ref sig .tc := ⟨.hbm, 89, rfl⟩
abbrev main_c_10 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v18 : BitVec 32 := Scalar.addi c0_i32 c8_i32
  let c1_i32 : BitVec 32 := 1#32
  ⟨c0_i32, v18, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v20 : Index := Scalar.indexCast v19
  let c0_10 : Index := 0#32
  ![v20.toNat, 0]
def k0_off2 (k0_t1 : Fin k0_t1_loop.trips) : Fin 2 → Nat :=
  let c0_19 : Index := 0#32
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v68 : Index := Scalar.indexCast v19
  ![0, v68.toNat]
@[reducible] def k0_t2_loop : Scf.Loop 32 :=
  let c0_i32_20 : BitVec 32 := 0#32
  let c256_i32_21 : BitVec 32 := 256#32
  let v71 : BitVec 32 := Scalar.addi c0_i32_20 c256_i32_21
  let c1_i32_22 : BitVec 32 := 1#32
  ⟨c0_i32_20, v71, c1_i32_22⟩
def k0_off3 (k0_t1 : Fin k0_t1_loop.trips) (k0_t2 : Fin k0_t2_loop.trips) : Fin 2 → Nat :=
  let c0_i32_20 : BitVec 32 := 0#32
  let c1_i32_22 : BitVec 32 := 1#32
  let arg11 : BitVec 32 := Scf.iv c0_i32_20 c1_i32_22 k0_t2
  let v92 : Index := Scalar.indexCast arg11
  let c0_i32 : BitVec 32 := 0#32
  let c1_i32 : BitVec 32 := 1#32
  let arg10 : BitVec 32 := Scf.iv c0_i32 c1_i32 k0_t1
  let c256_i32 : BitVec 32 := 256#32
  let v19 : BitVec 32 := Scalar.muli arg10 c256_i32
  let v93 : Index := Scalar.indexCast v19
  ![v92.toNat, v93.toNat]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 176
  | .vmem => 0
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S20000x1, .f32⟩
  | 5 => ⟨S20000, .f32⟩
  | 6 => ⟨S20000, .f32⟩
  | 7 => ⟨S20000x1, .f32⟩
  | 8 => ⟨S20000, .f32⟩
  | 9 => ⟨S20000x1, .f32⟩
  | 10 => ⟨S20000, .f32⟩
  | 11 => ⟨S20000, .f32⟩
  | 12 => ⟨S_, .f32⟩
  | 13 => ⟨S20000, .f32⟩
  | 14 => ⟨S20000, .i1⟩
  | 15 => ⟨S_, .f32⟩
  | 16 => ⟨S20000, .f32⟩
  | 17 => ⟨S20000, .i1⟩
  | 18 => ⟨S20000, .i1⟩
  | 19 => ⟨S_, .f32⟩
  | 20 => ⟨S_, .f32⟩
  | 21 => ⟨S20000, .f32⟩
  | 22 => ⟨S20000, .f32⟩
  | 23 => ⟨S2000, .f32⟩
  | 24 => ⟨S2000, .i32⟩
  | 25 => ⟨S_, .i32⟩
  | 26 => ⟨S2000, .i32⟩
  | 27 => ⟨S2000, .i1⟩
  | 28 => ⟨S_, .i32⟩
  | 29 => ⟨S2000, .i32⟩
  | 30 => ⟨S2000, .i32⟩
  | 31 => ⟨S2000, .i32⟩
  | 32 => ⟨S2000x1, .i32⟩
  | 33 => ⟨S2000x4, .f32⟩
  | 34 => ⟨S2000x1, .f32⟩
  | 35 => ⟨S2000, .f32⟩
  | 36 => ⟨S2000x1, .f32⟩
  | 37 => ⟨S2000, .f32⟩
  | 38 => ⟨S2000, .f32⟩
  | 39 => ⟨S2000x1, .f32⟩
  | 40 => ⟨S2000, .f32⟩
  | 41 => ⟨S2000x1, .f32⟩
  | 42 => ⟨S2000, .f32⟩
  | 43 => ⟨S2000, .f32⟩
  | 44 => ⟨S2000, .f32⟩
  | 45 => ⟨S2000x1, .f32⟩
  | 46 => ⟨S2000, .f32⟩
  | 47 => ⟨S2000x1, .f32⟩
  | 48 => ⟨S2000, .f32⟩
  | 49 => ⟨S2000, .f32⟩
  | 50 => ⟨S2000x1, .f32⟩
  | 51 => ⟨S2000, .f32⟩
  | 52 => ⟨S2000x1, .f32⟩
  | 53 => ⟨S2000, .f32⟩
  | 54 => ⟨S2000, .f32⟩
  | 55 => ⟨S2000, .f32⟩
  | 56 => ⟨S2000x2, .f32⟩
  | 57 => ⟨S2000x1x2, .f32⟩
  | 58 => ⟨S2000x2, .f32⟩
  | 59 => ⟨S1x2000x2, .f32⟩
  | 60 => ⟨S2000x2000x2, .f32⟩
  | 61 => ⟨S2000x2000x2, .f32⟩
  | 62 => ⟨S2000x2000x2, .f32⟩
  | 63 => ⟨S2000x2, .f32⟩
  | 64 => ⟨S2000x1x2, .f32⟩
  | 65 => ⟨S2000x2, .f32⟩
  | 66 => ⟨S1x2000x2, .f32⟩
  | 67 => ⟨S2000x2000x2, .f32⟩
  | 68 => ⟨S2000x2000x2, .f32⟩
  | 69 => ⟨S2000x2000x2, .f32⟩
  | 70 => ⟨S2000x2000x2, .f32⟩
  | 71 => ⟨S_, .f32⟩
  | 72 => ⟨S_, .f32⟩
  | 73 => ⟨S2000x2000x2, .f32⟩
  | 74 => ⟨S2000x2000x2, .f32⟩
  | 75 => ⟨S2000x2000x1, .f32⟩
  | 76 => ⟨S2000x2000, .f32⟩
  | 77 => ⟨S2000x2000x1, .f32⟩
  | 78 => ⟨S2000x2000, .f32⟩
  | 79 => ⟨S2000x2000, .f32⟩
  | 80 => ⟨S2000x1, .f32⟩
  | 81 => ⟨S1x2000, .f32⟩
  | 82 => ⟨S2000x2000, .f32⟩
  | 83 => ⟨S2000x2000, .f32⟩
  | 84 => ⟨S2000x2000, .f32⟩
  | 85 => ⟨S2000x2000, .f32⟩
  | 86 => ⟨S_, .f32⟩
  | 87 => ⟨S2000x2000, .f32⟩
  | 88 => ⟨S2000x2000, .f32⟩
  | 89 => ⟨S2000x2000, .f32⟩
  | 90 => ⟨S2000, .i32⟩
  | 91 => ⟨S_, .i1⟩
  | 92 => ⟨S2000, .i1⟩
  | 93 => ⟨S_, .i32⟩
  | 94 => ⟨S_, .i32⟩
  | 95 => ⟨S2000x2000, .f32⟩
  | 96 => ⟨S2000, .i32⟩
  | 97 => ⟨S_, .i32⟩
  | 98 => ⟨S_, .i32⟩
  | 99 => ⟨S2000, .i1⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x2000, .f32⟩
  | 119 => ⟨S2000, .f32⟩
  | 120 => ⟨S_, .f32⟩
  | 121 => ⟨S2000, .f32⟩
  | 122 => ⟨S2000, .i1⟩
  | 123 => ⟨S2000, .i1⟩
  | 124 => ⟨S_, .i32⟩
  | 125 => ⟨S2000, .i32⟩
  | 126 => ⟨S2000, .i1⟩
  | 127 => ⟨S2000, .i1⟩
  | _ => ⟨S20000x4, .f32⟩

abbrev hbmTy0_1 (i : Nat) : BufTy := match i % 128 with
  | 0 => ⟨S_, .i1⟩
  | 1 => ⟨S_, .i1⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S1, .i1⟩
  | 9 => ⟨S_, .i1⟩
  | 10 => ⟨S_, .i1⟩
  | 11 => ⟨S_, .i1⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1, .i32⟩
  | 19 => ⟨S2000, .i1⟩
  | 20 => ⟨S_, .i32⟩
  | 21 => ⟨S_, .i32⟩
  | 22 => ⟨S_, .f32⟩
  | 23 => ⟨S_, .f32⟩
  | 24 => ⟨S2000, .f32⟩
  | 25 => ⟨S2000, .f32⟩
  | 26 => ⟨S1000, .f32⟩
  | 27 => ⟨S1000, .i32⟩
  | 28 => ⟨S_, .i32⟩
  | 29 => ⟨S1000, .i32⟩
  | 30 => ⟨S1000, .i1⟩
  | 31 => ⟨S_, .i32⟩
  | 32 => ⟨S1000, .i32⟩
  | 33 => ⟨S1000, .i32⟩
  | 34 => ⟨S1000, .i32⟩
  | 35 => ⟨S1000x1, .i32⟩
  | 36 => ⟨S1000x4, .f32⟩
  | 37 => ⟨S_, .i32⟩
  | 38 => ⟨S1000, .i32⟩
  | 39 => ⟨S1000, .i1⟩
  | 40 => ⟨S_, .i32⟩
  | 41 => ⟨S1000, .i32⟩
  | 42 => ⟨S1000, .i32⟩
  | 43 => ⟨S1000, .i32⟩
  | 44 => ⟨S1000x1, .i32⟩
  | 45 => ⟨S1000, .f32⟩
  | 46 => ⟨S1000x1, .f32⟩
  | 47 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_call1_v0 : Ref sig .tc := ⟨.hbm, 72, rfl⟩
abbrev main_call1_v1 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_4 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_c_5 : Ref sig .tc := ⟨.hbm, 91, rfl⟩
abbrev main_v76 : Ref sig .tc := ⟨.hbm, 92, rfl⟩
abbrev main_c_6 : Ref sig .tc := ⟨.hbm, 93, rfl⟩
abbrev main_c_7 : Ref sig .tc := ⟨.hbm, 94, rfl⟩
abbrev main_v77_0 : Ref sig .tc := ⟨.hbm, 95, rfl⟩
abbrev main_v77_1 : Ref sig .tc := ⟨.hbm, 96, rfl⟩
abbrev main_v77_2 : Ref sig .tc := ⟨.hbm, 97, rfl⟩
abbrev main_v77_3 : Ref sig .tc := ⟨.hbm, 98, rfl⟩
abbrev main_v77_4 : Ref sig .tc := ⟨.hbm, 99, rfl⟩
abbrev main_while0c_c_19 : Ref sig .tc := ⟨.hbm, 100, rfl⟩
abbrev main_while0c_v95 : Ref sig .tc := ⟨.hbm, 101, rfl⟩
abbrev main_while0b_c_19 : Ref sig .tc := ⟨.hbm, 102, rfl⟩
abbrev main_while0b_v95 : Ref sig .tc := ⟨.hbm, 103, rfl⟩
abbrev main_while0b_v96 : Ref sig .tc := ⟨.hbm, 104, rfl⟩
abbrev main_while0b_c_20 : Ref sig .tc := ⟨.hbm, 105, rfl⟩
abbrev main_while0b_v97 : Ref sig .tc := ⟨.hbm, 106, rfl⟩
abbrev main_while0b_c_21 : Ref sig .tc := ⟨.hbm, 107, rfl⟩
abbrev main_while0b_v98 : Ref sig .tc := ⟨.hbm, 108, rfl⟩
abbrev main_while0b_v99 : Ref sig .tc := ⟨.hbm, 109, rfl⟩
abbrev main_while0b_c_22 : Ref sig .tc := ⟨.hbm, 110, rfl⟩
abbrev main_while0b_c_23 : Ref sig .tc := ⟨.hbm, 111, rfl⟩
abbrev main_while0b_v100 : Ref sig .tc := ⟨.hbm, 112, rfl⟩
abbrev main_while0b_c_24 : Ref sig .tc := ⟨.hbm, 113, rfl⟩
abbrev main_while0b_c_25 : Ref sig .tc := ⟨.hbm, 114, rfl⟩
abbrev main_while0b_v101 : Ref sig .tc := ⟨.hbm, 115, rfl⟩
abbrev main_while0b_c_26 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_cst_27 : Ref sig .tc := ⟨.hbm, 120, rfl⟩
abbrev main_while0b_v105 : Ref sig .tc := ⟨.hbm, 121, rfl⟩
abbrev main_while0b_v106 : Ref sig .tc := ⟨.hbm, 122, rfl⟩
abbrev main_while0b_v107 : Ref sig .tc := ⟨.hbm, 123, rfl⟩
abbrev main_while0b_v108 : Ref sig .tc := ⟨.hbm, 124, rfl⟩
abbrev main_while0b_v109 : Ref sig .tc := ⟨.hbm, 125, rfl⟩
abbrev main_while0b_v110 : Ref sig .tc := ⟨.hbm, 126, rfl⟩
abbrev main_while0b_v111 : Ref sig .tc := ⟨.hbm, 127, rfl⟩
abbrev main_while0b_c_28 : Ref sig .tc := ⟨.hbm, 128, rfl⟩
abbrev main_while0b_v112 : Ref sig .tc := ⟨.hbm, 129, rfl⟩
abbrev main_while0b_c_29 : Ref sig .tc := ⟨.hbm, 130, rfl⟩
abbrev main_while0b_v113 : Ref sig .tc := ⟨.hbm, 131, rfl⟩
abbrev main_while0b_v114 : Ref sig .tc := ⟨.hbm, 132, rfl⟩
abbrev main_while0b_c_30 : Ref sig .tc := ⟨.hbm, 133, rfl⟩
abbrev main_while0b_v115 : Ref sig .tc := ⟨.hbm, 134, rfl⟩
abbrev main_while0b_v116 : Ref sig .tc := ⟨.hbm, 135, rfl⟩
abbrev main_while0b_v117 : Ref sig .tc := ⟨.hbm, 136, rfl⟩
abbrev main_while0b_v118 : Ref sig .tc := ⟨.hbm, 137, rfl⟩
abbrev main_while0b_v119 : Ref sig .tc := ⟨.hbm, 138, rfl⟩
abbrev main_while0b_v120 : Ref sig .tc := ⟨.hbm, 139, rfl⟩
abbrev main_while0b_c_31 : Ref sig .tc := ⟨.hbm, 140, rfl⟩
abbrev main_while0b_v121 : Ref sig .tc := ⟨.hbm, 141, rfl⟩
abbrev main_while0b_c_32 : Ref sig .tc := ⟨.hbm, 142, rfl⟩
abbrev main_while0b_v122 : Ref sig .tc := ⟨.hbm, 143, rfl⟩
abbrev main_while0b_v123 : Ref sig .tc := ⟨.hbm, 144, rfl⟩
abbrev main_while0b_v124 : Ref sig .tc := ⟨.hbm, 145, rfl⟩
abbrev main_while0b_v125 : Ref sig .tc := ⟨.hbm, 146, rfl⟩
abbrev main_while0b_v126 : Ref sig .tc := ⟨.hbm, 147, rfl⟩
abbrev main_while0b_c_33 : Ref sig .tc := ⟨.hbm, 148, rfl⟩
abbrev main_while0b_v127 : Ref sig .tc := ⟨.hbm, 149, rfl⟩
abbrev main_cst_8 : Ref sig .tc := ⟨.hbm, 150, rfl⟩
abbrev main_call2_v0 : Ref sig .tc := ⟨.hbm, 151, rfl⟩
abbrev main_call2_v1 : Ref sig .tc := ⟨.hbm, 152, rfl⟩
abbrev main_v78 : Ref sig .tc := ⟨.hbm, 153, rfl⟩
abbrev main_values_9 : Ref sig .tc := ⟨.hbm, 154, rfl⟩
abbrev main_indices_10 : Ref sig .tc := ⟨.hbm, 155, rfl⟩
abbrev main_c_11 : Ref sig .tc := ⟨.hbm, 156, rfl⟩
abbrev main_v79 : Ref sig .tc := ⟨.hbm, 157, rfl⟩
abbrev main_v80 : Ref sig .tc := ⟨.hbm, 158, rfl⟩
abbrev main_c_12 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_c_13 : Ref sig .tc := ⟨.hbm, 165, rfl⟩
abbrev main_v86 : Ref sig .tc := ⟨.hbm, 166, rfl⟩
abbrev main_v87 : Ref sig .tc := ⟨.hbm, 167, rfl⟩
abbrev main_c_14 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩

abbrev nD : Nat := 1
abbrev τ : Topo := Topo.v7x

variable {F : FTy → Type} [FloatOps F]

abbrev main_while0_count : Scf.Loop 32 := ⟨0#32, 2000#32, 1#32⟩
-- ==== Proof.Region.Loop.lean ====
/- The outer loop of the suppression kernel: one trip per block of 256 boxes.

   A trip reads the block's rows of the four column-shaped coordinate arrays, writes the block's 256 × 2048 overlap
   matrix whole into the scratch buffer, takes the block's keep flags through the inner loop, and stores the keep
   row back. Before trip `k` the keep row's buffer holds `rowAt g k`: its contents `g` at the loop's entry with each
   earlier trip's stores written over it. -/
module

public import proofs.«01_k».proof.Proof.Gen.KernelIdeal.Loops
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD)
  (arg0 : Memref sig .tc .vmem S1x2048 .f32) (harg0 : arg0.IsWhole) (arg1 : Memref sig .tc .vmem S1x2048 .f32) (harg1 : arg1.IsWhole)
  (arg2 : Memref sig .tc .vmem S1x2048 .f32) (harg2 : arg2.IsWhole) (arg3 : Memref sig .tc .vmem S1x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S1x2048 .f32) (harg8 : arg8.IsWhole) (arg9 : Memref sig .tc .vmem S256x2048 .f32) (harg9 : arg9.IsWhole)
  (v6 v8 v10 v12 : Vec F S1x2048 .f32)
  (X4 : BufTy.Contents (Elt F) arg4.view.ty) (X5 : BufTy.Contents (Elt F) arg5.view.ty)
  (X6 : BufTy.Contents (Elt F) arg6.view.ty) (X7 : BufTy.Contents (Elt F) arg7.view.ty)

/-- What a trip holds: the four column-shaped inputs at their contents, the keep row at `g`, the scratch buffer at
    anything. -/
def held (g : BufTy.Contents (Elt F) arg8.view.ty) : sProp 𝕄 :=
  iprop((arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (arg8.view.loc (c : Thread nD τ) ↦[arg8.view.set]{fullShare} g)
    ∗ (∃ f, arg9.view.loc (c : Thread nD τ) ↦[arg9.view.set]{fullShare} f))

set_option maxHeartbeats 1000000 in
/-- One trip from the keep row's contents `g`: the pieces it stores there, with the proof that the trip runs. -/
def outerTrip (k : Fin k0_t1_loop.trips) (g : BufTy.Contents (Elt F) arg8.view.ty) :
    { L : List (View.Piece (Elt F) S1x2048 .f32) // ∀ E : Set ℕ,
      held c arg4 arg5 arg6 arg7 arg8 arg9 X4 X5 X6 X7 g
      ⊢ wp frame (wpE (defs₀ (F := F)) Variants.none (c : Thread nD τ) none) E
          (k0_t1_body (F := F) arg0 harg0 arg1 harg1 arg2 harg2 arg3 harg3 arg4 harg4 arg5 harg5 arg6 harg6 arg7 harg7 arg8 harg8 arg9 harg9 v6 v8 v10 v12 k ())
          (fun _ => held c arg4 arg5 arg6 arg7 arg8 arg9 X4 X5 X6 X7 (arg8.view.writes (Elt F) g L)) } := by
  refine ⟨?_, fun E => ?run⟩
  case run =>
    have hk : k.val < 8 := Nat.lt_of_lt_of_le k.isLt k0_t1_abs.2.1
    unfold k0_t1_body
    simp only [k0_part1_eq_skeleton]
    unfold held
    iintro ⟨H4, H5, H6, H7, H8, %f9, H9⟩
    sl_exec
    sl_step
    isplitl [H4]; · iexact H4
    isplitl [H5]; · iexact H5
    isplitl [H6]; · iexact H6
    isplitl [H7]; · iexact H7
    isplitl [H8]; · iexact H8
    iexists _; iexact H9

/-- The keep row's buffer before trip `k`. -/
def rowAt (g : BufTy.Contents (Elt F) arg8.view.ty) : ℕ → BufTy.Contents (Elt F) arg8.view.ty
  | 0 => g
  | k + 1 =>
    if h : k < k0_t1_loop.trips then
      arg8.view.writes (Elt F) (rowAt g k) (outerTrip c arg0 harg0 arg1 harg1 arg2 harg2 arg3 harg3 arg4 harg4 arg5 harg5 arg6 harg6 arg7 harg7 arg8 harg8 arg9 harg9 v6 v8 v10 v12 X4 X5 X6 X7 ⟨k, h⟩ (rowAt g k)).1
    else rowAt g k

set_option warn.classDefReducibility false in
/-- The loop's invariant: what a trip holds, the keep row at `rowAt g k`. -/
@[sl_loop] def outerInv (E : Set ℕ) (g : BufTy.Contents (Elt F) arg8.view.ty) :
    LoopInvTy_k0_t1 (F := F) Unit ℕ (UR sig nD τ) ℕ Variants.none c none E arg0 harg0 arg1 harg1 arg2 harg2 arg3 harg3 arg4 harg4 arg5 harg5 arg6 harg6 arg7 harg7 arg8 harg8 arg9 harg9 v6 v8 v10 v12 where
  inv k _ := held c arg4 arg5 arg6 arg7 arg8 arg9 X4 X5 X6 X7
    (rowAt c arg0 harg0 arg1 harg1 arg2 harg2 arg3 harg3 arg4 harg4 arg5 harg5 arg6 harg6 arg7 harg7 arg8 harg8 arg9 harg9 v6 v8 v10 v12 X4 X5 X6 X7 g k)
  step k _ := by
    rw [rowAt, dif_pos k.isLt]
    exact (outerTrip c arg0 harg0 arg1 harg1 arg2 harg2 arg3 harg3 arg4 harg4 arg5 harg5 arg6 harg6 arg7 harg7 arg8 harg8 arg9 harg9 v6 v8 v10 v12 X4 X5 X6 X7 k _).2 E

end Trip

end Cert.KernelIdeal.Hand

end
-- ==== Proof.Region.Body.lean ====
/- One run of the kernel's body: on whole staging memrefs, the inputs at their contents and the keep row and the
   scratch at anything, it ends with the inputs as they were and the keep row at `rowOf`. -/
module

public import proofs.«01_k».proof.Proof.Region.Loop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD)
  (arg0 : Memref sig .tc .vmem S1x2048 .f32) (harg0 : arg0.IsWhole) (arg1 : Memref sig .tc .vmem S1x2048 .f32) (harg1 : arg1.IsWhole)
  (arg2 : Memref sig .tc .vmem S1x2048 .f32) (harg2 : arg2.IsWhole) (arg3 : Memref sig .tc .vmem S1x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S1x2048 .f32) (harg8 : arg8.IsWhole) (arg9 : Memref sig .tc .vmem S256x2048 .f32) (harg9 : arg9.IsWhole)
  (x0 x1 x2 x3 : Vec F S1x2048 .f32) (x4 x5 x6 x7 : Vec F S2048x1 .f32)

/-- The eight inputs' staging memrefs at their contents. -/
def inputs : sProp 𝕄 :=
  iprop(owns (c : Thread nD τ) arg0 fullShare x0 ∗ owns (c : Thread nD τ) arg1 fullShare x1
    ∗ owns (c : Thread nD τ) arg2 fullShare x2 ∗ owns (c : Thread nD τ) arg3 fullShare x3
    ∗ owns (c : Thread nD τ) arg4 fullShare x4 ∗ owns (c : Thread nD τ) arg5 fullShare x5
    ∗ owns (c : Thread nD τ) arg6 fullShare x6 ∗ owns (c : Thread nD τ) arg7 fullShare x7)

/-- The keep row the body leaves: the loop's row after its last trip, from the initial flags. -/
def rowOf : Vec F S1x2048 .f32 :=
  arg8.view.read (Elt F)
    (rowAt c arg0 harg0 arg1 harg1 arg2 harg2 arg3 harg3 arg4 harg4 arg5 harg5 arg6 harg6 arg7 harg7 arg8 harg8 arg9 harg9
      (View.readAt (Elt F) arg0.view (Rect.unit (s := S1x2048) ![0, 0] S1x2048.size inb_S1x2048_S1x2048_0_0).toLoadRect (harg0.unread x0))
      (View.readAt (Elt F) arg1.view (Rect.unit (s := S1x2048) ![0, 0] S1x2048.size inb_S1x2048_S1x2048_0_0).toLoadRect (harg1.unread x1))
      (View.readAt (Elt F) arg2.view (Rect.unit (s := S1x2048) ![0, 0] S1x2048.size inb_S1x2048_S1x2048_0_0).toLoadRect (harg2.unread x2))
      (View.readAt (Elt F) arg3.view (Rect.unit (s := S1x2048) ![0, 0] S1x2048.size inb_S1x2048_S1x2048_0_0).toLoadRect (harg3.unread x3))
      (harg4.unread x4) (harg5.unread x5) (harg6.unread x6) (harg7.unread x7)
      (arg8.view.writes (Elt F) arg8.view.junk [⟨Rect.unit (s := S1x2048) ![0, 0] S1x2048.size inb_S1x2048_S1x2048_0_0, k0_pay1⟩])
      (Scf.trips k0_t1_loop.lb k0_t1_loop.ub k0_t1_loop.st))

set_option maxHeartbeats 1000000 in
/-- The body's run. -/
theorem bodyRun (E : Set ℕ) (K : PUnit → sProp 𝕄) :
    iprop(inputs c arg0 arg1 arg2 arg3 arg4 arg5 arg6 arg7 x0 x1 x2 x3 x4 x5 x6 x7
        ∗ (∃ d, owns (c : Thread nD τ) arg8 fullShare d) ∗ (∃ d, owns (c : Thread nD τ) arg9 fullShare d)
        ∗ (iprop(inputs c arg0 arg1 arg2 arg3 arg4 arg5 arg6 arg7 x0 x1 x2 x3 x4 x5 x6 x7
            ∗ owns (c : Thread nD τ) arg8 fullShare
                (rowOf c arg0 harg0 arg1 harg1 arg2 harg2 arg3 harg3 arg4 harg4 arg5 harg5 arg6 harg6 arg7 harg7 arg8 harg8 arg9 harg9 x0 x1 x2 x3 x4 x5 x6 x7)
            ∗ (∃ d, owns (c : Thread nD τ) arg9 fullShare d)) -∗ K ⟨⟩))
      ⊢ wp frame (wpE (defs₀ (F := F)) Variants.none (c : Thread nD τ) none) E
          (cc0__nms_body arg0 harg0 arg1 harg1 arg2 harg2 arg3 harg3 arg4 harg4 arg5 harg5 arg6 harg6 arg7 harg7 arg8 harg8 arg9 harg9) K := by
  simp only [cc0__nms_body_eq_skeleton]; unfold cc0__nms_body_skel
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, Hk⟩
  obtain rfl := harg0.eq_unread hf0; obtain rfl := harg1.eq_unread hf1; obtain rfl := harg2.eq_unread hf2; obtain rfl := harg3.eq_unread hf3
  obtain rfl := harg4.eq_unread hf4; obtain rfl := harg5.eq_unread hf5; obtain rfl := harg6.eq_unread hf6; obtain rfl := harg7.eq_unread hf7
  sl_exec
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr; swap; · iexact H8
    ipureintro; rfl
  iexists _, _; isplitr; swap; · iexact H9
  ipureintro; rfl

end Body

end Cert.KernelIdeal.Hand

end
-- ==== Proof.Region.Run.lean ====
/- The launch: the pipeline's proof data, the body at its one point, and the run of the whole program from any
   memory — every array of the pipeline at what the data say, every other buffer as the host lines leave it, every
   counter at zero. The frame follows. -/
module

public import proofs.«01_k».proof.Proof.Region.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Each window's staging memref at point `t`. -/
abbrev st0 (t : Fin cfg0.N) : Memref sig .tc .vmem S1x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S1x2048 .f32 := win0_2.stage (cfg0.slots t 2)
abbrev st3 (t : Fin cfg0.N) : Memref sig .tc .vmem S1x2048 .f32 := win0_3.stage (cfg0.slots t 3)
abbrev st4 (t : Fin cfg0.N) : Memref sig .tc .vmem S2048x1 .f32 := win0_4.stage (cfg0.slots t 4)
abbrev st5 (t : Fin cfg0.N) : Memref sig .tc .vmem S2048x1 .f32 := win0_5.stage (cfg0.slots t 5)
abbrev st6 (t : Fin cfg0.N) : Memref sig .tc .vmem S2048x1 .f32 := win0_6.stage (cfg0.slots t 6)
abbrev st7 (t : Fin cfg0.N) : Memref sig .tc .vmem S2048x1 .f32 := win0_7.stage (cfg0.slots t 7)
abbrev st8 (t : Fin cfg0.N) : Memref sig .tc .vmem S1x2048 .f32 := win0_8.stage (cfg0.slots t 8)
/-- The scratch buffer, whole. -/
abbrev scr : Memref sig .tc .vmem S256x2048 .f32 := Memref.whole cc0_scratch0

/-- The keep row after the body at point `t`, from the point's input blocks. -/
def rowOut (c : Dev nD) (t : Fin cfg0.N) : Vec F S1x2048 .f32 :=
  rowOf c (st0 t) (hstage0_0 0) (st1 t) (hstage0_1 0) (st2 t) (hstage0_2 0) (st3 t) (hstage0_3 0) (st4 t) (hstage0_4 0)
    (st5 t) (hstage0_5 0) (st6 t) (hstage0_6 0) (st7 t) (hstage0_7 0) (st8 t) (hstage0_8 0) scr (Memref.isWhole_whole _)
    (iblk m c 0 t) (iblk m c 1 t) (iblk m c 2 t) (iblk m c 3 t) (iblk m c 4 t) (iblk m c 5 t) (iblk m c 6 t) (iblk m c 7 t)

/-- The pipeline's proof data: the arrays as the region finds them; after the body each input's buffer at its block
    and the keep row's at `rowOut`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => rowOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_eq (c : Dev nD) (t : Fin cfg0.N) :
    (dats m 0 c).after 0 t = iblk m c 0 t ∧ (dats m 0 c).after 1 t = iblk m c 1 t
    ∧ (dats m 0 c).after 2 t = iblk m c 2 t ∧ (dats m 0 c).after 3 t = iblk m c 3 t
    ∧ (dats m 0 c).after 4 t = iblk m c 4 t ∧ (dats m 0 c).after 5 t = iblk m c 5 t
    ∧ (dats m 0 c).after 6 t = iblk m c 6 t ∧ (dats m 0 c).after 7 t = iblk m c 7 t := by
  dsimp only [dats]; exact ⟨rfl, rfl, rfl, rfl, rfl, rfl, rfl, rfl⟩

theorem after_row (c : Dev nD) (t : Fin cfg0.N) : (dats m 0 c).after 8 t = rowOut m c t := by dsimp only [dats]

/-- Each input's staging buffer holds its block when the body starts. -/
theorem before_eq (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) ∧ (∀ d, (dats m 0 c).before 7 t d = iblk m c 7 t) :=
  ⟨before0_0_of m (dats m 0 c) (A_eq m c 0) (fun t => (after_eq m c t).1) t,
   before0_1_of m (dats m 0 c) (A_eq m c 1) (fun t => (after_eq m c t).2.1) t,
   before0_2_of m (dats m 0 c) (A_eq m c 2) (fun t => (after_eq m c t).2.2.1) t,
   before0_3_of m (dats m 0 c) (A_eq m c 3) (fun t => (after_eq m c t).2.2.2.1) t,
   before0_4_of m (dats m 0 c) (A_eq m c 4) (fun t => (after_eq m c t).2.2.2.2.1) t,
   before0_5_of m (dats m 0 c) (A_eq m c 5) (fun t => (after_eq m c t).2.2.2.2.2.1) t,
   before0_6_of m (dats m 0 c) (A_eq m c 6) (fun t => (after_eq m c t).2.2.2.2.2.2.1) t,
   before0_7_of m (dats m 0 c) (A_eq m c 7) (fun t => (after_eq m c t).2.2.2.2.2.2.2) t⟩

/-! ## The body at its point -/

/-- The region's invariant: the scratch buffer at some contents, and the generator register. -/
theorem inv_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5, b6, b7⟩ := before_eq m c t
  obtain ⟨a0, a1, a2, a3, a4, a5, a6, a7⟩ := after_eq m c t
  unfold bodyPre bodyPost bodyAt0
  simp only [b0, b1, b2, b3, b4, b5, b6, b7]
  rw [show (dats m 0 c).Φ t.succ = (dats m 0 c).Φ t.castSucc from rfl,
    show (dats m 0 c).owesAt () t.succ = (dats m 0 c).owesAt () t.castSucc from rfl,
    a0, a1, a2, a3, a4, a5, a6, a7, after_row]
  rw [show (dats m 0 c).Φ t.castSucc = Pipeline.ΦA spec0 c from rfl, inv_eq]
  unfold rowOut
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (bodyRun c _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) Set.univ _)
  unfold inputs
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [HS]; · iexact HS
  iintro ⟨⟨H0, H1, H2, H3, H4, H5, H6, H7⟩, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_body (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-! ## The run and the frame -/

set_option backward.isDefEq.respectTransparency.types false in
set_option maxHeartbeats 800000 in
/-- The run of the whole program. -/
theorem run_main : θ_run defs (onTc (τ := τ) (main (F := F))) (s₀ m ρ)
    (fun r => (Pipeline.FramePost cfgs (dats m) 0 (Pipeline.afterTail₀ cfgs (dats m) 0 (V0 m) [hostOps1, hostOps1_1, hostOps1_2, hostOps1_3])) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub)
    (hfresh := sfx_fresh) (hkeep := sfx_keeps) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.KernelFrame.lean ====
/- The frame of `Kernel`: that program is `KernelIdeal` under another name, so its frame is the other's, at `Bits`. -/
module

public import proofs.«01_k».proof.Defs
public import proofs.«01_k».proof.Proof.Region.Run
public import proofs.«01_k».proof.Proof.Gen.Kernel

@[expose] public section

namespace Cert.Proof

open Idealize.ShloMosaic

/-- The frame's statement, of `KernelIdeal`'s program at `Bits`. -/
def SameFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem same : Cert.quiescent_Kernel = SameFrame := by sl_kernel_rfl

theorem kernel_frame : Cert.quiescent_Kernel :=
  same.mpr fun m ρ _ => Cert.KernelIdeal.Hand.frame (F := Bits) m ρ

end Cert.Proof

end
-- ==== Proof.Precondition.lean ====
/- The side conditions of the precondition's own operations: shapes that slice, cast and broadcast as it says. -/
module

public import proofs.«01_k».proof.Defs
public import proofs.«01_k».proof.Proof.Gen.ReferenceIdeal

@[expose] public section

namespace Cert.Pre_enough_candidates.Hand

open Idealize.ShloMosaic

instance facts : Cert.Pre_enough_candidates.Facts where
  slices_S20000x4_S20000x1_0_2 := Cert.ReferenceIdeal.Gen.slices_S20000x4_S20000x1_0_2
  shapeCasts_S20000x1_S20000 := Cert.ReferenceIdeal.Gen.shapeCasts_S20000x1_S20000
  slices_S20000x4_S20000x1_0_0 := Cert.ReferenceIdeal.Gen.slices_S20000x4_S20000x1_0_0
  slices_S20000x4_S20000x1_0_3 := Cert.ReferenceIdeal.Gen.slices_S20000x4_S20000x1_0_3
  slices_S20000x4_S20000x1_0_1 := Cert.ReferenceIdeal.Gen.slices_S20000x4_S20000x1_0_1
  bcast_S_S20000 := Cert.ReferenceIdeal.Gen.bcast_S_S20000
  sliceFits_S20000_S2000 := Cert.ReferenceIdeal.Gen.sliceFits_S20000_S2000
  bcast_S_S2000 := Cert.ReferenceIdeal.Gen.bcast_S_S2000

end Cert.Pre_enough_candidates.Hand

end
-- ==== Proof.Reference.Frame.lean ====
/- The reference's frame: a buffer no operation writes ends at its launch contents. -/
module

public import proofs.«01_k».proof.Defs
public import proofs.«01_k».proof.Proof.Gen.ReferenceIdeal.Run
public import Idealize.ShloMosaic.Lib.Quiescent

@[expose] public section

set_option maxRecDepth 8192

noncomputable section

namespace Cert.ReferenceIdeal.Hand

open Cert.ReferenceIdeal.Gen Cert.ReferenceIdeal.Value
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- A buffer the loop does not write is, at every trip, as the loop found it. -/
theorem trips_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    show after while0Ops0 (after condOps (atK m k c)) (Proc.devRef .tc r) = _
    rw [after_of_writes_sub while0Ops0 _ while0Ops0_writes hb, after_of_writes_sub condOps _ condOps_writes hc,
      trips_keep c r hc hb k]

/-- What the operations before the loop write. -/
abbrev beforeW : List (Ref sig .tc) := hostOps0_W ++ hostOps0_1_W ++ hostOps0_2_W ++ hostOps0_3_W ++ hostOps0_4_W

/-- A buffer the operations before the loop do not write reaches the loop at its launch contents. -/
theorem entry_keep (c : Dev nD) (r : Ref sig .tc) (h : r ∉ beforeW) :
    entryContents (F := F) preI m c (Proc.devRef .tc r) = m ((c.tc : Thread nD τ).loc r) := by
  simp only [beforeW, List.mem_append, not_or] at h
  obtain ⟨⟨⟨⟨h0, h1⟩, h2⟩, h3⟩, h4⟩ := h
  simp only [entryContents, preI, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- What the operations after the loop write. -/
abbrev afterW5 : List (Ref sig .tc) := [main_cst_8]
abbrev afterW6 : List (Ref sig .tc) := [main_call2_v0, main_call2_v1, main_v78]
abbrev afterW7 : List (Ref sig .tc) := [main_values_9, main_indices_10, main_c_11, main_v79, main_v80, main_c_12, main_v81, main_v82, main_v83,
  main_v84, main_v85, main_c_13, main_v86, main_v87, main_c_14, main_v88, main_v89, main_v90, main_v91, main_v92, main_v93, main_v94]

/-- A buffer nothing writes ends at its launch contents. -/
theorem final_keep (c : Dev nD) (r : Ref sig .tc) (h : r ∉ beforeW) (hc : r ∉ condOps_W) (hb : r ∉ while0Ops0_W)
    (h5 : r ∉ afterW5) (h6 : r ∉ afterW6) (h7 : r ∉ afterW7) :
    finalContents (F := F) condOps preI bodyI postI 2000 m c (Proc.devRef .tc r) = m ((c.tc : Thread nD τ).loc r) := by
  simp only [finalContents, postI, afterL_cons, afterL_nil]
  rw [after_of_writes_sub (W := afterW7) hostOps0_7 _ (forall_writes_sub_of_map rfl) h7,
    after_of_writes_sub (W := afterW6) hostOps0_6 _ (forall_writes_sub_of_map rfl) h6,
    after_of_writes_sub (W := afterW5) hostOps0_5 _ (forall_writes_sub_of_map rfl) h5,
    after_of_writes_sub condOps _ condOps_writes hc]
  exact (trips_keep m c r hc hb 2000).trans (entry_keep m c r h)

/-- The frame: the arguments end unchanged, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h c main_arg0 rfl).trans (final_keep m c main_arg0 (by decide) (by decide) (by decide) (by decide) (by decide) (by decide)),
     (h c main_arg1 rfl).trans (final_keep m c main_arg1 (by decide) (by decide) (by decide) (by decide) (by decide) (by decide))⟩,
    sem_eq_zero_of_no_sems (by decide) r.2⟩) (run_fold m ρ)

end Cert.ReferenceIdeal.Hand

end
-- ==== Proof.Value.Shared.lean ====
/- The arrays both programs compute before and after the suppression, as functions of the arguments.

   `topVals` and `topBoxes` are the scores and boxes of the 2000 best candidates, degenerate boxes scored `-inf`;
   `finish` gathers the selected 1000 of them into the result. -/
module

public import proofs.«01_k».proof.Proof.Gen.KernelIdeal
public import Idealize.ShloMosaic.Lib.ValueIdx

@[expose] public section

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- The scores, with those of the boxes of negative width or height replaced by `-inf`. -/
def masked (b : Vec F S20000x4 .f32) (s : Vec F S20000 .f32) : Vec F S20000 .f32 :=
  select
    (andi
      (cmpf .oge
        (subf (shapeCast S20000 (extractStridedSlice S20000x1 ![0, 2] b slices_S20000x4_S20000x1_0_2) shapeCasts_S20000x1_S20000)
          (shapeCast S20000 (extractStridedSlice S20000x1 ![0, 0] b slices_S20000x4_S20000x1_0_0) shapeCasts_S20000x1_S20000))
        (broadcastInDim S20000 ![] bcast_S_S20000 (constant (F := F) S_ .f32 0x00000000#32)))
      (cmpf .oge
        (subf (shapeCast S20000 (extractStridedSlice S20000x1 ![0, 3] b slices_S20000x4_S20000x1_0_3) shapeCasts_S20000x1_S20000)
          (shapeCast S20000 (extractStridedSlice S20000x1 ![0, 1] b slices_S20000x4_S20000x1_0_1) shapeCasts_S20000x1_S20000))
        (broadcastInDim S20000 ![] bcast_S_S20000 (constant (F := F) S_ .f32 0x00000000#32))))
    s (broadcastInDim S20000 ![] bcast_S_S20000 (constant (F := F) S_ .f32 0xFF800000#32))

/-- The 2000 best scores, best first. -/
def topVals (b : Vec F S20000x4 .f32) (s : Vec F S20000 .f32) : Vec F S2000 .f32 :=
  (Host.topK S2000 0 (FloatOps.cmpfTotal .gt) (masked b s) sliceFits_S20000_S2000).1

/-- Their positions among the candidates. -/
def topIdx (b : Vec F S20000x4 .f32) (s : Vec F S20000 .f32) : IVec S2000 32 :=
  (Host.topK S2000 0 (FloatOps.cmpfTotal .gt) (masked b s) sliceFits_S20000_S2000).2

/-- Their boxes. -/
def topBoxes (b : Vec F S20000x4 .f32) (s : Vec F S20000 .f32) : Vec F S2000x4 .f32 :=
  Host.gather gather_S20000x4_S2000x1_S2000x4_1_0_n_n_0_1_14 b
    (broadcastInDim S2000x1 ![0] bcast_S2000_S2000x1_0
      (select (cmpi .slt (topIdx b s) (broadcastInDim S2000 ![] bcast_S_S2000 (constantI S_ 32 0#32)))
        (addi (topIdx b s) (broadcastInDim S2000 ![] bcast_S_S2000 (constantI S_ 32 20000#32))) (topIdx b s)))

/-- The boxes as a table without end: zeros after the first 2000. -/
def boxOf (boxes : Vec F S2000x4 .f32) (i : ℕ) (q : Fin 4) : Elt F .f32 :=
  if h : i < 2000 then boxes (ValueIdx.ix2 ⟨i, h⟩ q) else FloatOps.ofBits .f32 0x00000000#32

/-- A selection of 1000 positions, counted from the end where negative. -/
def wrapped (sel : IVec S1000 32) : IVec S1000x1 32 :=
  broadcastInDim S1000x1 ![0] bcast_S1000_S1000x1_0
    (select (cmpi .slt sel (broadcastInDim S1000 ![] bcast_S_S1000 (constantI S_ 32 0#32)))
      (addi sel (broadcastInDim S1000 ![] bcast_S_S1000 (constantI S_ 32 2000#32))) sel)

/-- Boxes with a column of scores beside them. -/
def joined (boxes : Vec F S1000x4 .f32) (vals : Vec F S1000x1 .f32) : Vec F S1000x5 .f32 :=
  concatenate S1000x5 1 [⟨S1000x4, boxes⟩, ⟨S1000x1, vals⟩] concatenates_S1000x4_S1000x1_S1000x5_d1

/-- The result: each selected box with its score beside it. -/
def finish (boxes : Vec F S2000x4 .f32) (vals : Vec F S2000 .f32) (sel : IVec S1000 32) : Vec F S1000x5 .f32 :=
  joined (Host.gather gather_S2000x4_S1000x1_S1000x4_1_0_n_n_0_1_14 boxes (wrapped sel))
    (broadcastInDim S1000x1 ![0] bcast_S1000_S1000x1_0 (Host.gather gather_S2000_S1000x1_S1000_n_0_n_n_0_1_1 vals (wrapped sel)))

end Cert.KernelIdeal.Hand

end
-- ==== Proof.Reference.Entry.lean ====
/- What the reference's loop finds: the best scores and boxes, the same arrays as the kernel program's, and the matrix
   of overlap ratios of every two of those boxes. -/
module

public import proofs.«01_k».proof.Proof.Reference.Frame
public import proofs.«01_k».proof.Proof.Value.Shared

@[expose] public section

set_option maxRecDepth 16384

noncomputable section

namespace Cert.ReferenceIdeal.Hand

open Cert.ReferenceIdeal.Gen Cert.ReferenceIdeal.Value
open Idealize.ShloMosaic Idealize.ShloMosaic.TcCoe Idealize.ShloMosaic.StableHlo
open Cert.KernelIdeal.Hand (masked topVals topIdx topBoxes)

variable {F : FTy → Type} [FloatOps F]

/-- Column by column, the areas of the boxes. -/
def areasOf (b : Vec F S2000x4 .f32) : Vec F S2000 .f32 :=
  mulf
    (subf (shapeCast S2000 (extractStridedSlice S2000x1 ![0, 2] b slices_S2000x4_S2000x1_0_2) shapeCasts_S2000x1_S2000)
      (shapeCast S2000 (extractStridedSlice S2000x1 ![0, 0] b slices_S2000x4_S2000x1_0_0) shapeCasts_S2000x1_S2000))
    (subf (shapeCast S2000 (extractStridedSlice S2000x1 ![0, 3] b slices_S2000x4_S2000x1_0_3) shapeCasts_S2000x1_S2000)
      (shapeCast S2000 (extractStridedSlice S2000x1 ![0, 1] b slices_S2000x4_S2000x1_0_1) shapeCasts_S2000x1_S2000))

/-- A corner of the box of each row, against every column. -/
def rowCorner (x : Vec F S2000x2 .f32) : Vec F S2000x2000x2 .f32 :=
  broadcastInDim S2000x2000x2 ![0, 1, 2] bcast_S2000x1x2_S2000x2000x2_0_1_2 (broadcastInDim S2000x1x2 ![0, 2] bcast_S2000x2_S2000x1x2_0_2 x)

/-- A corner of the box of each column, against every row. -/
def colCorner (x : Vec F S2000x2 .f32) : Vec F S2000x2000x2 .f32 :=
  broadcastInDim S2000x2000x2 ![0, 1, 2] bcast_S1x2000x2_S2000x2000x2_0_1_2 (broadcastInDim S1x2000x2 ![1, 2] bcast_S2000x2_S1x2000x2_1_2 x)

/-- The extents of the intersection of every two boxes, negative when they do not meet. -/
def extentsOf (b : Vec F S2000x4 .f32) : Vec F S2000x2000x2 .f32 :=
  subf
    (minimumf (rowCorner (extractStridedSlice S2000x2 ![0, 2] b slices_S2000x4_S2000x2_0_2))
      (colCorner (extractStridedSlice S2000x2 ![0, 2] b slices_S2000x4_S2000x2_0_2)))
    (maximumf (rowCorner (extractStridedSlice S2000x2 ![0, 0] b slices_S2000x4_S2000x2_0_0))
      (colCorner (extractStridedSlice S2000x2 ![0, 0] b slices_S2000x4_S2000x2_0_0)))

/-- The intersections' areas, from their extents. -/
def interOf (x : Vec F S2000x2000x2 .f32) : Vec F S2000x2000 .f32 :=
  mulf (shapeCast S2000x2000 (extractStridedSlice S2000x2000x1 ![0, 0, 0] x slices_S2000x2000x2_S2000x2000x1_0_0_0) shapeCasts_S2000x2000x1_S2000x2000)
    (shapeCast S2000x2000 (extractStridedSlice S2000x2000x1 ![0, 0, 1] x slices_S2000x2000x2_S2000x2000x1_0_0_1) shapeCasts_S2000x2000x1_S2000x2000)

/-- The ratios, from the areas of the rows' boxes, of the columns' boxes and of the intersections. -/
def ratiosOf (u v : Vec F S2000 .f32) (x : Vec F S2000x2000 .f32) : Vec F S2000x2000 .f32 :=
  Host.divf x
    (maximumf
      (subf
        (addf (broadcastInDim S2000x2000 ![0, 1] bcast_S2000x1_S2000x2000_0_1 (broadcastInDim S2000x1 ![0] bcast_S2000_S2000x1_0 u))
          (broadcastInDim S2000x2000 ![0, 1] bcast_S1x2000_S2000x2000_0_1 (broadcastInDim S1x2000 ![1] bcast_S2000_S1x2000_1 v)))
        x)
      (broadcastInDim S2000x2000 ![] bcast_S_S2000x2000 (constant (F := F) S_ .f32 0x3089705F#32)))

/-- The matrix of overlap ratios. -/
def iouOf (b : Vec F S2000x4 .f32) : Vec F S2000x2000 .f32 :=
  ratiosOf (areasOf b) (areasOf b)
    (interOf (maximumf (broadcastInDim S2000x2000x2 ![] bcast_S_S2000x2000x2 (constant (F := F) S_ .f32 0x00000000#32)) (extentsOf b)))

section Reads

variable (W : (b : DevRef τ sig) → b.ty.Contents (Elt F))

/-! The lines before the loop, list by list, from any contents. -/

theorem masked_read : after hostOps0_1 (after hostOps0 W) (Proc.devRef .tc main_v15)
    = masked (W (Proc.devRef .tc main_arg0)) (W (Proc.devRef .tc main_arg1)) := by
  after_reads_simp
  rfl

theorem arg0_read : after hostOps0_1 (after hostOps0 W) (Proc.devRef .tc main_arg0) = W (Proc.devRef .tc main_arg0) := by
  after_reads_simp

theorem vals_read : after hostOps0_2 W (Proc.devRef .tc main_values)
    = (Host.topK S2000 0 (FloatOps.cmpfTotal .gt) (W (Proc.devRef .tc main_v15) : Vec F S20000 .f32) sliceFits_S20000_S2000).1 := by
  after_reads_simp

theorem boxes_read : after hostOps0_2 (after hostOps0_1 (after hostOps0 W)) (Proc.devRef .tc main_v22)
    = topBoxes (W (Proc.devRef .tc main_arg0)) (W (Proc.devRef .tc main_arg1)) := by
  after_reads_simp
  rfl

theorem areas_read : after hostOps0_2 W (Proc.devRef .tc main_v33) = areasOf (after hostOps0_2 W (Proc.devRef .tc main_v22)) := by
  after_reads_simp
  rfl

theorem areas_read' : after hostOps0_2 W (Proc.devRef .tc main_v44) = areasOf (after hostOps0_2 W (Proc.devRef .tc main_v22)) := by
  after_reads_simp
  rfl

theorem extents_read : after hostOps0_2 W (Proc.devRef .tc main_v59) = extentsOf (after hostOps0_2 W (Proc.devRef .tc main_v22)) := by
  after_reads_simp
  rfl

theorem clip_read : after hostOps0_3 (after hostOps0_2 W) (Proc.devRef .tc main_v60)
    = maximumf (broadcastInDim S2000x2000x2 ![] bcast_S_S2000x2000x2 (constant (F := F) S_ .f32 0x00000000#32))
        (after hostOps0_2 W (Proc.devRef .tc main_v59) : Vec F S2000x2000x2 .f32) := by
  after_reads_simp
  rfl

theorem ratios_read : after hostOps0_4 W (Proc.devRef .tc main_v77_0)
    = ratiosOf (W (Proc.devRef .tc main_v33)) (W (Proc.devRef .tc main_v44)) (interOf (W (Proc.devRef .tc main_v60))) := by
  after_reads_simp
  rfl

theorem keep3 (r : Ref sig .tc) (h : r ∉ hostOps0_3_W) : after hostOps0_3 W (Proc.devRef .tc r) = W (Proc.devRef .tc r) :=
  after_of_writes_sub hostOps0_3 _ hostOps0_3_writes h

theorem keep4 (r : Ref sig .tc) (h : r ∉ hostOps0_4_W) : after hostOps0_4 W (Proc.devRef .tc r) = W (Proc.devRef .tc r) :=
  after_of_writes_sub hostOps0_4 _ hostOps0_4_writes h

theorem iota_read : after hostOps0_4 W (Proc.devRef .tc main_v77_1) = iotaInDim S2000 32 0 := by
  after_reads_simp
  rfl

theorem index_read : after hostOps0_4 W (Proc.devRef .tc main_v77_3) = constantI S_ 32 0#32 := by
  after_reads_simp
  rfl

theorem ones_read : after hostOps0_4 W (Proc.devRef .tc main_v77_4) = broadcastInDim S2000 ![] bcast_S_S2000 (constantI S_ 1 1#1) := by
  after_reads_simp
  rfl

end Reads

section Entry

variable (m : (ℓ : Loc nD τ sig) → Buf (Elt F) ℓ) (c : Dev nD)

/-- The arguments as launched. -/
abbrev argB : Vec F S20000x4 .f32 := m ((c.tc : Thread nD τ).loc main_arg0)
abbrev argS : Vec F S20000 .f32 := m ((c.tc : Thread nD τ).loc main_arg1)

theorem entry_steps : entryContents (F := F) preI m c
    = after hostOps0_4 (after hostOps0_3 (after hostOps0_2 (after hostOps0_1 (after hostOps0 fun b => m (c, b))))) := by
  simp only [entryContents, preI, afterL_cons, afterL_nil]

theorem entry_vals : entryContents (F := F) preI m c (Proc.devRef .tc main_values) = topVals (argB m c) (argS m c) := by
  rw [entry_steps, keep4 _ _ (by decide), keep3 _ _ (by decide), vals_read, masked_read]
  rfl

theorem entry_boxes : entryContents (F := F) preI m c (Proc.devRef .tc main_v22) = topBoxes (argB m c) (argS m c) := by
  rw [entry_steps, keep4 _ _ (by decide), keep3 _ _ (by decide), boxes_read]

theorem entry_iou : entryContents (F := F) preI m c (Proc.devRef .tc main_v77_0) = iouOf (topBoxes (argB m c) (argS m c)) := by
  rw [entry_steps, ratios_read, keep3 _ _ (by decide), keep3 _ _ (by decide), clip_read, areas_read, areas_read', extents_read, boxes_read]
  rfl

theorem entry_iota : entryContents (F := F) preI m c (Proc.devRef .tc main_v77_1) = iotaInDim S2000 32 0 := by
  rw [entry_steps, iota_read]

theorem entry_index : entryContents (F := F) preI m c (Proc.devRef .tc main_v77_3) = constantI S_ 32 0#32 := by
  rw [entry_steps, index_read]

theorem entry_ones : entryContents (F := F) preI m c (Proc.devRef .tc main_v77_4) = broadcastInDim S2000 ![] bcast_S_S2000 (constantI S_ 1 1#1) := by
  rw [entry_steps, ones_read]

end Entry

end Cert.ReferenceIdeal.Hand

end
-- ==== Proof.Value.Columns.lean ====
/- One entry of a column taken out of a matrix, and of a layer taken out of a stack along its last axis. -/
module

public import Idealize.ShloMosaic.Lib.ValueLayoutCasts
public import Idealize.ShloMosaic.Lib.ValueLayout

@[expose] public section

namespace Cert.Columns

open Idealize.ShloMosaic Idealize.ShloMosaic.ValueIdx

/-- Column `q` of a matrix, taken out as a vector. -/
theorem column_apply {α : Type} {n k : ℕ} (x : (⟨2, ![n, k]⟩ : Shape).Idx → α) (q : Fin k)
    (hs : (⟨2, ![n, k]⟩ : Shape).Slices ![0, q.val] ⟨2, ![n, 1]⟩) (hc : (⟨2, ![n, 1]⟩ : Shape).ShapeCasts ⟨1, ![n]⟩) (i : Fin n) :
    shapeCast ⟨1, ![n]⟩ (extractStridedSlice ⟨2, ![n, 1]⟩ ![0, q.val] x hs) hc (ix1 i) = x (ix2 i q) := by
  rw [shapeCast_apply _ _ _ (ix2 i 0) (by
    rw [Shape.rowMajor_val_two, Shape.rowMajor_val_one]
    show i.val * 1 + 0 = i.val
    omega)]
  exact extractStridedSlice_apply _ _ _ _ (ix2 i q) (by intro a; fin_cases a <;> simp [ix2])

/-- Layer `q` along the last axis, taken out as a matrix. -/
theorem layer_apply {α : Type} {n p k : ℕ} (x : (⟨3, ![n, p, k]⟩ : Shape).Idx → α) (q : Fin k)
    (hs : (⟨3, ![n, p, k]⟩ : Shape).Slices ![0, 0, q.val] ⟨3, ![n, p, 1]⟩) (hc : (⟨3, ![n, p, 1]⟩ : Shape).ShapeCasts ⟨2, ![n, p]⟩)
    (i : Fin n) (j : Fin p) :
    shapeCast ⟨2, ![n, p]⟩ (extractStridedSlice ⟨3, ![n, p, 1]⟩ ![0, 0, q.val] x hs) hc (ix2 i j) = x (ix3 i j q) := by
  rw [shapeCast_apply _ _ _ (ix3 i j 0) (by
    rw [Shape.rowMajor_val_three, Shape.rowMajor_val_two]
    show (i.val * p + j.val) * 1 + 0 = i.val * p + j.val
    omega)]
  exact extractStridedSlice_apply _ _ _ _ (ix3 i j q) (by intro a; fin_cases a <;> simp [ix3])

end Cert.Columns
-- ==== Proof.Value.Overlap.lean ====
/- When two boxes overlap too much: their intersection over their union exceeds the threshold.

   A box is its four coordinates, in the order left, top, right, bottom. The relation is symmetric, since each of its
   parts is. -/
module

public import Idealize.ShloMosaic.PureOps.Ideal

@[expose] public section

noncomputable section

namespace Cert.Overlap

open Idealize.ShloMosaic

/-- The area of a box. -/
def area (a : Fin 4 → EReal) : EReal := (a 2 - a 0) * (a 3 - a 1)

/-- The area two boxes share. -/
def shared (a b : Fin 4 → EReal) : EReal :=
  max (min (a 2) (b 2) - max (a 0) (b 0)) 0 * max (min (a 3) (b 3) - max (a 1) (b 1)) 0

/-- The shared area over the area of the union, the latter kept away from zero. -/
def ratio (a b : Fin 4 → EReal) : EReal :=
  Ideal.div (shared a b) (max (area a + area b - shared a b) (Ideal.ofBits .f32 0x3089705F#32))

/-- Two boxes overlap too much. -/
def Over (a b : Fin 4 → EReal) : Prop := Ideal.ofBits .f32 0x3F333333#32 < ratio a b

theorem shared_comm (a b : Fin 4 → EReal) : shared a b = shared b a := by
  unfold shared
  rw [min_comm (a 2), min_comm (a 3), max_comm (a 0), max_comm (a 1)]

theorem ratio_comm (a b : Fin 4 → EReal) : ratio a b = ratio b a := by
  unfold ratio
  rw [shared_comm a b, add_comm (area a)]

theorem over_comm (a b : Fin 4 → EReal) : Over a b ↔ Over b a := by
  unfold Over
  rw [ratio_comm]

end Cert.Overlap
-- ==== Proof.Reference.Ratios.lean ====
/- The reference's matrix of overlap ratios, entry by entry, over the extended reals. -/
module

public import proofs.«01_k».proof.Proof.Reference.Entry
public import proofs.«01_k».proof.Proof.Value.Columns
public import proofs.«01_k».proof.Proof.Value.Overlap
public import Idealize.ShloMosaic.Lib.IdealHost

@[expose] public section

set_option maxRecDepth 16384

noncomputable section

namespace Cert.ReferenceIdeal.Hand

open Cert.ReferenceIdeal.Gen Cert.Overlap Cert.Columns
open Idealize.ShloMosaic Idealize.ShloMosaic.TcCoe Idealize.ShloMosaic.ValueIdx

/-- The box at a row of the table. -/
abbrev boxAt (b : Vec Ideal S2000x4 .f32) (i : Fin 2000) : Fin 4 → EReal := fun q => b (ix2 i q)

theorem areas_apply (b : Vec Ideal S2000x4 .f32) (i : Fin 2000) : areasOf b (ix1 i) = area (boxAt b i) := by
  have h : ∀ (q : Fin 4) (hs : S2000x4.Slices ![0, q.val] S2000x1),
      shapeCast S2000 (extractStridedSlice S2000x1 ![0, q.val] b hs) shapeCasts_S2000x1_S2000 (ix1 i) = b (ix2 i q) :=
    fun q hs => column_apply b q hs _ i
  show (_ - _) * (_ - _) = (_ - _) * (_ - _)
  exact congrArg₂ (· * ·) (congrArg₂ (· - ·) (h 2 _) (h 0 _)) (congrArg₂ (· - ·) (h 3 _) (h 1 _))

theorem rowCorner_apply (x : Vec Ideal S2000x2 .f32) (i j : Fin 2000) (e : Fin 2) : rowCorner x (ix3 i j e) = x (ix2 i e) := by
  unfold rowCorner
  rw [broadcastInDim_apply _ _ _ _ (ix3 i 0 e) (by intro a; fin_cases a <;> rfl)]
  exact broadcastInDim_apply _ _ _ _ _ (by intro a; fin_cases a <;> rfl)

theorem colCorner_apply (x : Vec Ideal S2000x2 .f32) (i j : Fin 2000) (e : Fin 2) : colCorner x (ix3 i j e) = x (ix2 j e) := by
  unfold colCorner
  rw [broadcastInDim_apply _ _ _ _ (ix3 0 j e) (by intro a; fin_cases a <;> rfl)]
  exact broadcastInDim_apply _ _ _ _ _ (by intro a; fin_cases a <;> rfl)

/-- The near corner's coordinates are the box's first two, the far corner's its last two. -/
theorem near_apply (b : Vec Ideal S2000x4 .f32) (i : Fin 2000) (e : Fin 2) :
    extractStridedSlice S2000x2 ![0, 0] b slices_S2000x4_S2000x2_0_0 (ix2 i e) = boxAt b i (e.castLE (by decide)) :=
  extractStridedSlice_apply _ _ _ _ _ (by intro a; fin_cases a <;> simp [ix2])

theorem far_apply (b : Vec Ideal S2000x4 .f32) (i : Fin 2000) (e : Fin 2) :
    extractStridedSlice S2000x2 ![0, 2] b slices_S2000x4_S2000x2_0_2 (ix2 i e) = boxAt b i (e.natAdd 2) :=
  extractStridedSlice_apply _ _ _ _ _ (by intro a; fin_cases a <;> simp [ix2, Nat.add_comm])

theorem extents_apply (b : Vec Ideal S2000x4 .f32) (i j : Fin 2000) (e : Fin 2) :
    extentsOf b (ix3 i j e)
      = min (boxAt b i (e.natAdd 2)) (boxAt b j (e.natAdd 2)) - max (boxAt b i (e.castLE (by decide))) (boxAt b j (e.castLE (by decide))) := by
  refine congrArg₂ (· - ·) (congrArg₂ min ?_ ?_) (congrArg₂ max ?_ ?_)
  · exact (rowCorner_apply _ i j e).trans (far_apply b i e)
  · exact (colCorner_apply _ i j e).trans (far_apply b j e)
  · exact (rowCorner_apply _ i j e).trans (near_apply b i e)
  · exact (colCorner_apply _ i j e).trans (near_apply b j e)

theorem inter_apply (x : Vec Ideal S2000x2000x2 .f32) (i j : Fin 2000) : interOf x (ix2 i j) = x (ix3 i j 0) * x (ix3 i j 1) := by
  have h : ∀ (q : Fin 2) (hs : S2000x2000x2.Slices ![0, 0, q.val] S2000x2000x1),
      shapeCast S2000x2000 (extractStridedSlice S2000x2000x1 ![0, 0, q.val] x hs) shapeCasts_S2000x2000x1_S2000x2000 (ix2 i j) = x (ix3 i j q) :=
    fun q hs => layer_apply x q hs _ i j
  exact congrArg₂ (· * ·) (h 0 _) (h 1 _)

theorem ratios_apply (u v : Vec Ideal S2000 .f32) (x : Vec Ideal S2000x2000 .f32) (i j : Fin 2000) :
    ratiosOf u v x (ix2 i j)
      = Ideal.div (x (ix2 i j)) (max (u (ix1 i) + v (ix1 j) - x (ix2 i j)) (Ideal.ofBits .f32 0x3089705F#32)) := by
  have hu : broadcastInDim S2000x2000 ![0, 1] bcast_S2000x1_S2000x2000_0_1 (broadcastInDim S2000x1 ![0] bcast_S2000_S2000x1_0 u) (ix2 i j) = u (ix1 i) := by
    rw [broadcastInDim_apply _ _ _ _ (ix2 i 0) (by intro a; fin_cases a <;> rfl)]
    exact broadcastInDim_apply _ _ _ _ _ (by intro a; fin_cases a; rfl)
  have hv : broadcastInDim S2000x2000 ![0, 1] bcast_S1x2000_S2000x2000_0_1 (broadcastInDim S1x2000 ![1] bcast_S2000_S1x2000_1 v) (ix2 i j) = v (ix1 j) := by
    rw [broadcastInDim_apply _ _ _ _ (ix2 0 j) (by intro a; fin_cases a <;> rfl)]
    exact broadcastInDim_apply _ _ _ _ _ (by intro a; fin_cases a; rfl)
  rw [← hu, ← hv]
  rfl

/-- The entry at `(i, j)` is the overlap ratio of the boxes at `i` and `j`. -/
theorem iou_apply (b : Vec Ideal S2000x4 .f32) (i j : Fin 2000) : iouOf b (ix2 i j) = ratio (boxAt b i) (boxAt b j) := by
  have hx : interOf (maximumf (broadcastInDim S2000x2000x2 ![] bcast_S_S2000x2000x2 (constant (F := Ideal) S_ .f32 0x00000000#32)) (extentsOf b)) (ix2 i j)
      = shared (boxAt b i) (boxAt b j) := by
    rw [inter_apply]
    unfold shared
    refine congrArg₂ (· * ·) ?_ ?_
    · show max (Ideal.ofBits .f32 0x00000000#32) (extentsOf b (ix3 i j 0)) = _
      rw [extents_apply, max_comm, Ideal.ofBits_zero_f32]
      rfl
    · show max (Ideal.ofBits .f32 0x00000000#32) (extentsOf b (ix3 i j 1)) = _
      rw [extents_apply, max_comm, Ideal.ofBits_zero_f32]
      rfl
  unfold iouOf
  rw [ratios_apply, hx, areas_apply, areas_apply]
  rfl

end Cert.ReferenceIdeal.Hand

end
-- ==== Proof.Value.Greedy.lean ====
/- Greedy suppression, as a statement about positions alone.

   Boxes stand at positions `0 … n - 1`, best score first. `over j i` says that the boxes at `j` and `i` overlap too
   much. A box is kept when no kept box at an earlier position overlaps it: `Kept`. `Upto p i` is the part of that
   statement decided by the positions below `p`; both programs compute `Kept` by raising `p`. -/
module

public import Mathlib.Data.Nat.Basic

@[expose] public section

namespace Cert.Suppress

/-- Position `i` of `n` is kept: no kept position before it overlaps it. -/
def Kept (n : ℕ) (over : ℕ → ℕ → Prop) (i : ℕ) : Prop :=
  i < n ∧ ∀ j, (h : j < i) → over j i → ¬ Kept n over j
termination_by i

/-- No kept position below both `p` and `i` overlaps `i`. -/
def Upto (n : ℕ) (over : ℕ → ℕ → Prop) (p i : ℕ) : Prop :=
  i < n ∧ ∀ j, j < i → j < p → over j i → ¬ Kept n over j

variable {n : ℕ} {over : ℕ → ℕ → Prop}

theorem kept_iff (i : ℕ) : Kept n over i ↔ i < n ∧ ∀ j, j < i → over j i → ¬ Kept n over j := by
  rw [Kept]

theorem Kept.lt {i : ℕ} (h : Kept n over i) : i < n := ((kept_iff i).1 h).1

theorem upto_zero (i : ℕ) : Upto n over 0 i ↔ i < n :=
  ⟨fun h => h.1, fun h => ⟨h, fun j _ hj => absurd hj (Nat.not_lt_zero j)⟩⟩

/-- Once the bound has reached `i`, every position that matters to `i` has been counted. -/
theorem upto_of_le {p i : ℕ} (h : i ≤ p) : Upto n over p i ↔ Kept n over i := by
  rw [kept_iff]
  exact and_congr_right fun _ => forall_congr' fun j =>
    ⟨fun H hj ho => H hj (lt_of_lt_of_le hj h) ho, fun H hj _ ho => H hj ho⟩

/-- Raising the bound past `p` adds the question whether `p` is kept and overlaps `i`. -/
theorem upto_succ (p i : ℕ) : Upto n over (p + 1) i ↔ Upto n over p i ∧ ¬ (over p i ∧ Kept n over p ∧ p < i) := by
  constructor
  · rintro ⟨hi, H⟩
    exact ⟨⟨hi, fun j hj hp => H j hj (by omega)⟩, fun ⟨ho, hk, hp⟩ => H p hp (by omega) ho hk⟩
  · rintro ⟨⟨hi, H⟩, h⟩
    refine ⟨hi, fun j hj hp ho hk => ?_⟩
    rcases Nat.lt_succ_iff_lt_or_eq.1 hp with hlt | rfl
    · exact H j hj hlt ho hk
    · exact h ⟨ho, hk, hj⟩

/-- Raising the bound by a whole block `b … b + d - 1`, for a position past the block. -/
theorem upto_block {b d i : ℕ} (h : b + d ≤ i) :
    Upto n over (b + d) i ↔ Upto n over b i ∧ ¬ ∃ r, r < d ∧ Kept n over (b + r) ∧ over (b + r) i := by
  constructor
  · rintro ⟨hi, H⟩
    exact ⟨⟨hi, fun j hj hp => H j hj (by omega)⟩, fun ⟨r, hr, hk, ho⟩ => H (b + r) (by omega) (by omega) ho hk⟩
  · rintro ⟨⟨hi, H⟩, h'⟩
    refine ⟨hi, fun j hj hp ho hk => ?_⟩
    by_cases hb : j < b
    · exact H j hj hb ho hk
    · exact h' ⟨j - b, by omega, by rwa [Nat.add_sub_cancel' (by omega)], by rwa [Nat.add_sub_cancel' (by omega)]⟩

end Cert.Suppress
-- ==== Proof.Value.Flags.lean ====
/- Flags held as floats: a proposition as the extended real 1 or 0, and the ways both programs make and combine them.

   A comparison's one-bit word, widened and converted to a float, is such a flag; a product of two is the flag of the
   conjunction, and one minus a flag is the flag of the negation. A sum of flags exceeds one half exactly when one of
   them is set. -/
module

public import Idealize.ShloMosaic.Lib.ValueIdx
public import Idealize.ShloMosaic.Lib.IdealHost
public import Idealize.ShloMosaic.Lib.WordCmp

@[expose] public section

noncomputable section

open scoped BigOperators

namespace Cert.Flags

open Idealize.ShloMosaic Idealize.ShloMosaic.ValueIdx

open Classical in
/-- A proposition as the extended real 1 (it holds) or 0. -/
def flag (p : Prop) : EReal := if p then 1 else 0

theorem flag_true {p : Prop} (h : p) : flag p = 1 := by unfold flag; exact if_pos h
theorem flag_false {p : Prop} (h : ¬ p) : flag p = 0 := by unfold flag; exact if_neg h

theorem flag_congr {p q : Prop} (h : p ↔ q) : flag p = flag q := by rw [propext h]

theorem flag_mul (p q : Prop) : flag p * flag q = flag (p ∧ q) := by
  by_cases hp : p
  · rw [flag_true hp, one_mul]; exact flag_congr (by tauto)
  · rw [flag_false hp, zero_mul, flag_false (by tauto)]

theorem one_sub_flag (p : Prop) : 1 - flag p = flag (¬ p) := by
  by_cases hp : p
  · rw [flag_true hp, flag_false (by tauto)]
    rw [show (1 : EReal) = ((1 : ℝ) : EReal) by norm_cast, ← EReal.coe_sub]; norm_num
  · rw [flag_false hp, flag_true hp, sub_zero]

theorem flag_nonneg (p : Prop) : 0 ≤ flag p := by
  by_cases hp : p
  · rw [flag_true hp]; exact zero_le_one
  · rw [flag_false hp]

/-- A one-bit word widened to 32 bits and converted to a float is its flag. -/
theorem sitofp_bit (b : BitVec 1) : FloatOps.sitofp (F := Ideal) .f32 (b.setWidth 32) = flag (b = 1#1) := by
  show (((b.setWidth 32).toInt : ℝ) : EReal) = _
  by_cases h : b = 1#1
  · rw [flag_true h, h, show ((1#1 : BitVec 1).setWidth 32).toInt = 1 by decide]; norm_num
  · rw [flag_false h, eq_zero_of_ne_one h, show ((0#1 : BitVec 1).setWidth 32).toInt = 0 by decide]; norm_num

/-- A comparison's bit is set exactly when the first operand is greater. -/
theorem ogt_bit (x y : EReal) : FloatOps.cmpf (F := Ideal) (φ := .f32) .ogt x y = 1#1 ↔ y < x := by
  show BitVec.ofBool (decide (y < x)) = 1#1 ↔ _
  rw [WordCmp.ofBool_eq_one_iff, decide_eq_true_eq]

/-- One half, as the comparisons spell it. -/
theorem ofBits_half : Ideal.ofBits .f32 0x3F000000#32 = (((1 : ℝ) / 2 : ℝ) : EReal) := by
  simp [Ideal.ofBits, Ideal.ieee, -EReal.coe_mul]; norm_num

theorem half_lt_one : (((1 : ℝ) / 2 : ℝ) : EReal) < 1 := by
  rw [show (1 : EReal) = ((1 : ℝ) : EReal) by norm_cast, EReal.coe_lt_coe_iff]; norm_num

theorem half_pos : (0 : EReal) < (((1 : ℝ) / 2 : ℝ) : EReal) := by
  rw [show (0 : EReal) = ((0 : ℝ) : EReal) by norm_cast, EReal.coe_lt_coe_iff]; norm_num

theorem half_lt_flag (p : Prop) : (((1 : ℝ) / 2 : ℝ) : EReal) < flag p ↔ p := by
  by_cases h : p
  · rw [flag_true h]; exact ⟨fun _ => h, fun _ => half_lt_one⟩
  · rw [flag_false h]; exact ⟨fun e => absurd e (not_lt.2 half_pos.le), fun e => absurd e h⟩

/-- A finite sum of flags exceeds one half exactly when one of them is set. -/
theorem half_lt_sum {n : ℕ} (p : Fin n → Prop) :
    (((1 : ℝ) / 2 : ℝ) : EReal) < ∑ k, flag (p k) ↔ ∃ k, p k := by
  constructor
  · intro h
    by_contra hn
    rw [Finset.sum_eq_zero fun k _ => flag_false fun hk => hn ⟨k, hk⟩] at h
    exact absurd h (not_lt.2 half_pos.le)
  · rintro ⟨k, hk⟩
    refine lt_of_lt_of_le half_lt_one ?_
    rw [← flag_true hk]
    exact Finset.single_le_sum (f := fun k => flag (p k)) (fun i _ => flag_nonneg (p i)) (Finset.mem_univ k)

end Cert.Flags
-- ==== Proof.Reference.Trips.lean ====
/- The reference's loop: after `k` trips the first `k` positions hold whether they are kept, the others hold ones. -/
module

public import proofs.«01_k».proof.Proof.Reference.Ratios
public import proofs.«01_k».proof.Proof.Value.Greedy
public import proofs.«01_k».proof.Proof.Value.Flags
public import Idealize.ShloMosaic.Lib.DynamicIndex
public import Idealize.ShloMosaic.Lib.Routing.OpsOne
public import Idealize.ShloMosaic.Lib.Routing.OpsSet

@[expose] public section

set_option maxRecDepth 16384

noncomputable section

namespace Cert.ReferenceIdeal.Hand

open Cert.ReferenceIdeal.Gen Cert.ReferenceIdeal.Value Cert.Overlap Cert.Suppress
open Idealize.ShloMosaic Idealize.ShloMosaic.TcCoe Idealize.ShloMosaic.ValueIdx Idealize.ShloMosaic.StableHlo
open Cert.KernelIdeal.Hand (topBoxes boxOf)

section Trip

variable {F : FTy → Type} [FloatOps F]

/-- An index, counted from the end where negative. -/
def wrap (i : IVec S_ 32) : IVec S_ 32 := select (cmpi .slt i (constantI S_ 32 0#32)) (addi i (constantI S_ 32 2000#32)) i

/-- Row `i` of the matrix. -/
def rowAt (x : Vec F S2000x2000 .f32) (i : IVec S_ 32) : Vec F S2000 .f32 :=
  shapeCast S2000 (Host.dynamicSlice S1x2000 x
    (fun k => (((![wrap i, wrap (constantI S_ 32 0#32)] : Fin 2 → IVec S_ 32) k) (Shape.Idx.first h_S_)).toInt) sliceFits_S2000x2000_S1x2000) shapeCasts_S1x2000_S2000

/-- Flag `i`. -/
def flagAt (keep : IVec S2000 1) (i : IVec S_ 32) : IVec S_ 1 :=
  shapeCast S_ (Host.dynamicSlice S1 keep (fun k => (((![wrap i] : Fin 1 → IVec S_ 32) k) (Shape.Idx.first h_S_)).toInt) sliceFits_S2000_S1) shapeCasts_S1_S_

/-- Whether a set position before `i` overlaps `i` too much. -/
def hit (x : Vec F S2000x2000 .f32) (keep : IVec S2000 1) (io : IVec S2000 32) (i : IVec S_ 32) : IVec S_ 1 :=
  Host.reduce IntOp.ori
    (andi (andi (cmpf .ogt (rowAt x i) (broadcastInDim S2000 ![] bcast_S_S2000 (constant (F := F) S_ .f32 0x3F333333#32))) keep)
      (cmpi .slt io (broadcastInDim S2000 ![] bcast_S_S2000 i)))
    (constantI S_ 1 0#1) reducesTo_S2000_S_d0 h_S_

/-- The flags after the trip that settles position `i`. -/
def settled (x : Vec F S2000x2000 .f32) (keep : IVec S2000 1) (io : IVec S2000 32) (i : IVec S_ 32) : IVec S2000 1 :=
  Host.scatter scatter_S2000_S1_S__n_0_0_0 (fun _ b => b) keep (broadcastInDim S1 ![] bcast_S_S1 (wrap i)) (andi (flagAt keep i) (noti (hit x keep io i)))

theorem settled_read (X : Valuation τ sig (Elt F)) : afterL bodyI X (Proc.devRef .tc main_v77_4)
    = settled (X (Proc.devRef .tc main_v77_0)) (X (Proc.devRef .tc main_v77_4)) (X (Proc.devRef .tc main_v77_1)) (X (Proc.devRef .tc main_v77_3)) :=
  trip_main_v77_4 X

theorem wrap_word (k : ℕ) (hk : k < 2000) : wrap (constantI S_ 32 (BitVec.ofNat 32 k)) = constantI S_ 32 (BitVec.ofNat 32 k) := by
  funext j
  refine select_slt_zero_of_nonneg _ _ _ j ?_
  show 0 ≤ (BitVec.ofNat 32 k).toInt
  rw [toInt_ofNat_of_lt (by omega)]
  omega

theorem rowAt_apply (x : Vec F S2000x2000 .f32) (k j : Fin 2000) : rowAt x (constantI S_ 32 (BitVec.ofNat 32 k.val)) (ix1 j) = x (ix2 k j) := by
  unfold rowAt
  rw [Host.dynamicSlice_eq_extractStridedSlice (s := S2000x2000) S1x2000 x _ ![k.val, 0] _ ⟨rfl, by intro a; have := k.isLt; fin_cases a <;> simp <;> omega⟩ (by
    intro a
    rw [wrap_word k.val k.isLt, show constantI S_ 32 0#32 = constantI S_ 32 (BitVec.ofNat 32 0) from rfl, wrap_word 0 (by omega)]
    have := k.isLt
    fin_cases a
    · exact toInt_ofNat_of_lt (by omega)
    · exact toInt_ofNat_of_lt (k := 0) (by omega))]
  refine (shapeCast_1a_a_apply _ _ j).trans (extractStridedSlice_apply _ _ _ _ _ ?_)
  intro a
  fin_cases a <;> simp [ix2]

theorem flagAt_apply (keep : IVec S2000 1) (k : Fin 2000) : flagAt keep (constantI S_ 32 (BitVec.ofNat 32 k.val)) ix0 = keep (ix1 k) := by
  unfold flagAt
  rw [Host.dynamicSlice_eq_extractStridedSlice (s := S2000) S1 keep _ ![k.val] _ ⟨rfl, by intro a; have := k.isLt; fin_cases a; simp⟩ (by
    intro a
    rw [wrap_word k.val k.isLt]
    have := k.isLt
    fin_cases a
    exact toInt_ofNat_of_lt (by omega))]
  rw [shapeCast_apply _ _ _ (ix1 0) (by rfl)]
  refine extractStridedSlice_apply _ _ _ _ _ ?_
  intro a
  fin_cases a
  simp [ix1]

theorem settled_apply (x : Vec F S2000x2000 .f32) (keep : IVec S2000 1) (io : IVec S2000 32) (k i : Fin 2000) :
    settled x keep io (constantI S_ 32 (BitVec.ofNat 32 k.val)) (ix1 i)
      = if i = k then IntOp.andi (keep (ix1 k)) (~~~ hit x keep io (constantI S_ 32 (BitVec.ofNat 32 k.val)) ix0) else keep (ix1 i) := by
  have hk := k.isLt
  have hl : ∀ (u : S_.Idx) (e : Fin 2000),
      scatter_S2000_S1_S__n_0_0_0.resultIdx? u (broadcastInDim S1 ![] bcast_S_S1 (constantI S_ 32 (BitVec.ofNat 32 k.val))) = some (ix1 e) ↔ e = k := fun u e => by
    rw [eq_ix0 u]
    exact Routing.lands_one _ rfl rfl _ k (toInt_ofNat_of_lt (by omega)) e
  unfold settled
  rw [wrap_word k.val k.isLt]
  by_cases h : i = k
  · rw [if_pos h]
    refine Routing.scatter_set_hit _ _ _ _ _ _ (fun u _ => ?_) ix0 ((hl _ _).2 h)
    rw [eq_ix0 u]
    show IntOp.andi (flagAt keep _ ix0) _ = _
    rw [flagAt_apply]
    rfl
  · rw [if_neg h]
    exact Routing.scatter_set_miss _ _ _ _ _ fun u hu => h ((hl _ _).1 hu)

end Trip

/-- A fold of bits by "or" is set exactly when one of them is. -/
theorem fold_or {ι : Type} (s : Finset ι) (g : ι → BitVec 1) : s.fold IntOp.ori 0#1 g = 1#1 ↔ ∃ j ∈ s, g j = 1#1 := by
  classical
  have h : ∀ a b : BitVec 1, IntOp.ori a b = 1#1 ↔ a = 1#1 ∨ b = 1#1 := by decide
  induction s using Finset.induction_on with
  | empty => simp
  | insert a s ha ih => exact (by rw [Finset.fold_insert ha, h] : _ ↔ _).trans ((or_congr_right ih).trans (by simp))

/-- Boxes at two positions overlap too much. -/
def Clash (b : Vec Ideal S2000x4 .f32) (j i : ℕ) : Prop := Over (boxOf b j) (boxOf b i)

theorem clash_iff (b : Vec Ideal S2000x4 .f32) (j i : Fin 2000) : Clash b j.val i.val ↔ Over (boxAt b i) (boxAt b j) := by
  have h : ∀ i : Fin 2000, boxOf b i.val = boxAt b i := fun i => funext fun q => dif_pos i.isLt
  unfold Clash
  rw [h, h, over_comm]

theorem hit_iff (b : Vec Ideal S2000x4 .f32) (keep : IVec S2000 1) (k : Fin 2000) :
    hit (iouOf b) keep (iotaInDim S2000 32 0) (constantI S_ 32 (BitVec.ofNat 32 k.val)) ix0 = 1#1
      ↔ ∃ j : Fin 2000, j.val < k.val ∧ Clash b j.val k.val ∧ keep (ix1 j) = 1#1 := by
  have hk := k.isLt
  have hand : ∀ p q : BitVec 1, IntOp.andi p q = 1#1 ↔ p = 1#1 ∧ q = 1#1 := by decide
  have hbit : ∀ j : Fin 2000,
      andi (andi (cmpf .ogt (rowAt (iouOf b) (constantI S_ 32 (BitVec.ofNat 32 k.val)))
            (broadcastInDim S2000 ![] bcast_S_S2000 (constant (F := Ideal) S_ .f32 0x3F333333#32))) keep)
          (cmpi .slt (iotaInDim S2000 32 0) (broadcastInDim S2000 ![] bcast_S_S2000 (constantI S_ 32 (BitVec.ofNat 32 k.val)))) (ix1 j) = 1#1
        ↔ j.val < k.val ∧ Clash b j.val k.val ∧ keep (ix1 j) = 1#1 := fun j => by
    have hj := j.isLt
    show IntOp.andi (IntOp.andi (FloatOps.cmpf (F := Ideal) (φ := .f32) .ogt (rowAt (iouOf b) (constantI S_ 32 (BitVec.ofNat 32 k.val)) (ix1 j))
        (Ideal.ofBits .f32 0x3F333333#32)) (keep (ix1 j))) (IntOp.cmpi .slt (BitVec.ofNat 32 j.val) (BitVec.ofNat 32 k.val)) = 1#1 ↔ _
    rw [hand, hand, rowAt_apply, iou_apply, Flags.ogt_bit, WordCmp.cmpi_slt_ofNat_eq_one_iff (by omega) (by omega)]
    rw [clash_iff]
    exact ⟨fun h => ⟨h.2, h.1.1, h.1.2⟩, fun h => ⟨⟨h.2.1, h.2.2⟩, h.1⟩⟩
  unfold hit
  rw [Host.reduce_eq_fold IntOp.ori]
  refine (fold_or _ _).trans ⟨fun ⟨j, _, h⟩ => ⟨j 0, (hbit (j 0)).1 (by rwa [eq_ix1 j] at h)⟩, fun ⟨j, h⟩ => ⟨ix1 j, ?_, (hbit j).2 h⟩⟩
  exact Finset.mem_filter.2 ⟨Finset.mem_univ _, funext fun a => a.elim0⟩

variable (m : (ℓ : Loc nD τ sig) → Buf (Elt Ideal) ℓ) (c : Dev nD)

/-- What the loop does not write. -/
theorem trips_iou (k : ℕ) : atK m k c (Proc.devRef .tc main_v77_0) = iouOf (topBoxes (argB m c) (argS m c)) := by
  induction k with
  | zero => exact entry_iou m c
  | succ k ih =>
    show afterL bodyI (after condOps (atK m k c)) (Proc.devRef .tc main_v77_0) = _
    rw [trip_main_v77_0, cond_keeps _ main_v77_0 (by decide), ih]

theorem trips_iota (k : ℕ) : atK m k c (Proc.devRef .tc main_v77_1) = iotaInDim S2000 32 0 := by
  induction k with
  | zero => exact entry_iota m c
  | succ k ih =>
    show afterL bodyI (after condOps (atK m k c)) (Proc.devRef .tc main_v77_1) = _
    rw [trip_main_v77_1, cond_keeps _ main_v77_1 (by decide), ih]

/-- The position the next trip settles. -/
theorem trips_index (k : ℕ) : atK m k c (Proc.devRef .tc main_v77_3) = constantI S_ 32 (BitVec.ofNat 32 k) := by
  induction k with
  | zero => exact entry_index m c
  | succ k ih =>
    show afterL bodyI (after condOps (atK m k c)) (Proc.devRef .tc main_v77_3) = _
    rw [trip_main_v77_3, cond_keeps _ main_v77_3 (by decide), ih]
    funext j
    show BitVec.ofNat 32 k + BitVec.ofNat 32 1 = _
    rw [← BitVec.ofNat_add]
    rfl

/-- The reference's flags after `k` trips. -/
theorem trips_flags (k : ℕ) (hk : k ≤ 2000) (i : Fin 2000) :
    (atK m k c (Proc.devRef .tc main_v77_4) : IVec S2000 1) (ix1 i) = 1#1
      ↔ (i.val < k → Kept 2000 (Clash (topBoxes (argB m c) (argS m c))) i.val) := by
  induction k generalizing i with
  | zero =>
    have h : (atK m 0 c (Proc.devRef .tc main_v77_4) : IVec S2000 1) (ix1 i) = 1#1 := congrFun (entry_ones m c) (ix1 i)
    exact ⟨fun _ h0 => absurd h0 (Nat.not_lt_zero _), fun _ => h⟩
  | succ k ih =>
    have ih' := ih (by omega)
    have hb : ∀ p q : BitVec 1, IntOp.andi p (~~~ q) = 1#1 ↔ p = 1#1 ∧ ¬ q = 1#1 := by decide
    have e : (atK m (k + 1) c (Proc.devRef .tc main_v77_4) : IVec S2000 1)
        = settled (iouOf (topBoxes (argB m c) (argS m c))) (atK m k c (Proc.devRef .tc main_v77_4)) (iotaInDim S2000 32 0)
            (constantI S_ 32 (BitVec.ofNat 32 k)) := by
      show afterL bodyI (after condOps (atK m k c)) (Proc.devRef .tc main_v77_4) = _
      rw [settled_read, cond_keeps _ main_v77_0 (by decide), cond_keeps _ main_v77_1 (by decide), cond_keeps _ main_v77_3 (by decide),
        cond_keeps _ main_v77_4 (by decide), trips_iou, trips_iota, trips_index]
    rw [e, settled_apply _ _ _ ⟨k, by omega⟩ i]
    by_cases h : i = ⟨k, by omega⟩
    · subst h
      rw [if_pos rfl, hb, hit_iff, ih']
      refine Iff.trans ?_ (⟨fun H _ => H, fun H => H (Nat.lt_succ_self k)⟩ : Kept 2000 (Clash (topBoxes (argB m c) (argS m c))) k ↔ _)
      rw [kept_iff]
      constructor
      · rintro ⟨_, H⟩
        exact ⟨by omega, fun j hj ho hkept => H ⟨⟨j, by omega⟩, hj, ho, (ih' _).2 fun _ => hkept⟩⟩
      · rintro ⟨_, H⟩
        exact ⟨fun h0 => absurd h0 (lt_irrefl _), fun ⟨j, hj, ho, h1⟩ => H j.val hj ho ((ih' j).1 h1 hj)⟩
    · rw [if_neg h, ih']
      have hne : i.val ≠ k := fun q => h (Fin.ext q)
      exact ⟨fun H hlt => H (by omega), fun H hlt => H (by omega)⟩

end Cert.ReferenceIdeal.Hand

end
-- ==== Proof.Region.Payload.lean ====
/- What the suppression kernel computes from the values it reads, at one position.

   The keep row's initial value, one inner trip's keep flags, and the outer trip's keep row are read as flags: each
   lemma supposes that the values read are flags and says of which statement the result is the flag. -/
module

public import proofs.«01_k».proof.Proof.Gen.KernelIdeal.Skeleton
public import proofs.«01_k».proof.Proof.Value.Flags
public import Idealize.ShloMosaic.Lib.MatmulPlain
public import Idealize.ShloMosaic.Lib.ValueLayout
public import Idealize.ShloMosaic.Lib.KernelVsHost
public import Idealize.ShloMosaic.Lib.Pipeline.Value

@[expose] public section

set_option maxRecDepth 16384

noncomputable section

open scoped BigOperators

namespace Cert.KernelIdeal.Hand

open Cert.KernelIdeal.Gen Cert.Flags
open Idealize.ShloMosaic Idealize.ShloMosaic.ValueIdx

/-- The keep row starts with the first 2000 positions set. -/
theorem pay1_apply (c : Fin 2048) : k0_pay1 (F := Ideal) (ix2 0 c) = flag (c.val < 2000) := by
  show FloatOps.sitofp (F := Ideal) .f32
    ((IntOp.cmpi .slt (iota .tc S1x2048 32 [1] iota_S1x2048_d1_w32 (ix2 0 c)) 2000#32).setWidth 32) = _
  rw [iota_single_apply, sitofp_bit]
  refine flag_congr ?_
  have := c.isLt
  show IntOp.cmpi .slt (BitVec.ofNat 32 c.val) 2000#32 = 1#1 ↔ _
  rw [WordCmp.cmpi_slt_ofNat (by omega) (by omega), WordCmp.ofBool_eq_one_iff, decide_eq_true_eq]

/-- The number of an inner trip, as the loop's counter. -/
theorem trip2_word (k : Fin k0_t2_loop.trips) : Scf.iv 0#32 1#32 k = BitVec.ofNat 32 k.val := by
  simp [Scf.iv]

theorem trips2 : k0_t2_loop.trips = 256 := by decide

theorem trips1 : k0_t1_loop.trips = 8 := by decide

/-- A row of 256 lanes summed whole and read back as a scalar is the sum over its lanes. -/
theorem whole_sum (X : FVec Ideal S1x256 .f32) :
    extractAt ![0, 0, 0] (shapeCast S1x1x1 (multiReduction .add [1, 2] S1
        (shapeCast S1x1x256 X shapeCasts_S1x256_S1x1x256) 0x00000000#32 reduces_S1x1x256_S1 (.inl rfl) rfl)
        shapeCasts_S1_S1x1x1) inpos_S1x1x1_p0_0_0 = ∑ l : Fin 256, X (ix2 0 l) := by
  unfold extractAt shapeCast
  refine (Ideal.multiReduction_add_total (fun j => X (Shape.reshapeEquiv shapeCasts_S1x256_S1x1x256 j)) 0x00000000#32
    reduces_S1x1x256_S1 (fun b => by fin_cases b; rfl) (.inl rfl) rfl _).trans ?_
  rw [Equiv.sum_comp (Shape.reshapeEquiv shapeCasts_S1x256_S1x1x256) X, sum_idx2, Fin.sum_univ_one]

/-- The sum of an inner trip's flags masked to one lane is the flag of that lane. -/
theorem lane_sum (acc : FVec Ideal S1x256 .f32) (K : ℕ → Prop) (hK : ∀ l : Fin 256, acc (ix2 0 l) = flag (K l.val))
    (k : ℕ) (hk : k < 256) :
    extractAt ![0, 0, 0] (shapeCast S1x1x1 (multiReduction .add [1, 2] S1
        (shapeCast S1x1x256 (mulf acc (sitofp .f32 (extui 32
          (cmpi .eq (iota .tc S1x256 32 [1] iota_S1x256_d1_w32) (broadcast S1x256 (BitVec.ofNat 32 k))) natLt_1_32)))
          shapeCasts_S1x256_S1x1x256) 0x00000000#32 reduces_S1x1x256_S1 (.inl rfl) rfl) shapeCasts_S1_S1x1x1)
        inpos_S1x1x1_p0_0_0 = flag (K k) := by
  rw [whole_sum]
  have hv : ∀ l : Fin 256, mulf acc (sitofp .f32 (extui 32
          (cmpi .eq (iota .tc S1x256 32 [1] iota_S1x256_d1_w32) (broadcast S1x256 (BitVec.ofNat 32 k))) natLt_1_32)) (ix2 0 l)
        = flag (K l.val ∧ l.val = k) := fun l => by
    have hl := l.isLt
    show acc (ix2 0 l) * FloatOps.sitofp (F := Ideal) .f32
      ((IntOp.cmpi .eq (iota .tc S1x256 32 [1] iota_S1x256_d1_w32 (ix2 0 l)) (BitVec.ofNat 32 k)).setWidth 32) = _
    rw [hK, iota_single_apply, sitofp_bit, flag_mul]
    refine flag_congr (and_congr_right fun _ => ?_)
    show IntOp.cmpi .eq (BitVec.ofNat 32 l.val) (BitVec.ofNat 32 k) = 1#1 ↔ _
    rw [WordCmp.cmpi_eq_ofNat (by omega) (by omega), WordCmp.ofBool_eq_one_iff, decide_eq_true_eq]
  rw [Finset.sum_congr rfl fun l _ => hv l, Finset.sum_eq_single (⟨k, hk⟩ : Fin 256)]
  · exact flag_congr (and_iff_left rfl)
  · exact fun l _ hne => flag_false fun h => hne (Fin.ext h.2)
  · exact fun h => absurd (Finset.mem_univ _) h

/-- One inner trip: lane `l` stays set unless lane `k` is set, overlaps it and stands before it. -/
theorem pay9_apply (k : Fin k0_t2_loop.trips) (acc : FVec Ideal S1x256 .f32) (row : Vec Ideal S1x256 .f32)
    (K : ℕ → Prop) (hK : ∀ l : Fin 256, acc (ix2 0 l) = flag (K l.val)) (O : ℕ → Prop)
    (hO : ∀ l : Fin 256, row (ix2 0 l) = flag (O l.val)) (l : Fin 256) :
    k0_pay9 k acc row (ix2 0 l) = flag (K l.val ∧ ¬ (O l.val ∧ K k.val ∧ k.val < l.val)) := by
  have hk : k.val < 256 := lt_of_lt_of_eq k.isLt trips2
  have hl := l.isLt
  have hs := lane_sum acc K hK k.val hk
  rw [← trip2_word k] at hs
  show acc (ix2 0 l) * (Ideal.ofBits .f32 0x3F800000#32 - row (ix2 0 l) * _
    * FloatOps.sitofp (F := Ideal) .f32
      ((IntOp.cmpi .sgt (iota .tc S1x256 32 [1] iota_S1x256_d1_w32 (ix2 0 l)) (Scf.iv 0#32 1#32 k)).setWidth 32)) = _
  rw [hs, broadcast_apply, hK, hO, iota_single_apply, sitofp_bit, Ideal.ofBits_one_f32, flag_mul, flag_mul, one_sub_flag, flag_mul]
  refine flag_congr ?_
  rw [trip2_word k]
  have e : (IntOp.cmpi .sgt (BitVec.ofNat 32 ((ix2 (0 : Fin 1) l : S1x256.Idx) 1).val) (BitVec.ofNat 32 k.val) = 1#1) ↔ k.val < l.val := by
    show IntOp.cmpi .sgt (BitVec.ofNat 32 l.val) (BitVec.ofNat 32 k.val) = 1#1 ↔ _
    rw [WordCmp.cmpi_sgt_ofNat (by omega) (by omega), WordCmp.ofBool_eq_one_iff, decide_eq_true_eq]
  rw [e, and_assoc]

/-- The outer trip's keep row: position `c` past the block stays set unless a set lane of the block overlaps it. -/
theorem pay10_apply (b : ℕ) (hb : b ≤ 2000) (M : FVec Ideal S256x2048 .f32) (kb : FVec Ideal S1x256 .f32) (row : Vec Ideal S1x2048 .f32)
    (K : ℕ → Prop) (hK : ∀ l : Fin 256, kb (ix2 0 l) = flag (K l.val)) (O : ℕ → ℕ → Prop)
    (hO : ∀ (r : Fin 256) (c : Fin 2048), M (ix2 r c) = flag (O r.val c.val)) (R : ℕ → Prop)
    (hR : ∀ c : Fin 2048, row (ix2 0 c) = flag (R c.val)) (c : Fin 2048) :
    k0_pay10 (BitVec.ofNat 32 b) M kb row (ix2 0 c)
      = flag (R c.val ∧ ¬ ((∃ r, r < 256 ∧ K r ∧ O r c.val) ∧ b + 256 ≤ c.val)) := by
  have hc := c.isLt
  have hm : matmul dot_S1x256_S256x2048_S1x2048_1_0_0_1_n_n none kb M (constant S1x2048 .f32 0x00000000#32) (ix2 0 c)
      = ∑ r : Fin 256, flag (K r.val ∧ O r.val c.val) := by
    show FloatOps.matmul (DotDims.plain 1 256 2048) none kb M (constant S1x2048 .f32 0x00000000#32) (ix2 0 c) = _
    rw [Ideal.matmul_plain_apply]
    show Ideal.ofBits .f32 0x00000000#32 + _ = _
    rw [Ideal.ofBits_zero_f32, zero_add]
    exact Finset.sum_congr rfl fun r _ => by rw [hK, hO, flag_mul]
  show shapeCast S1x2048 row shapeCasts_S1x2048_S1x2048 (ix2 0 c) * (Ideal.ofBits .f32 0x3F800000#32
    - FloatOps.sitofp (F := Ideal) .f32 ((FloatOps.cmpf (F := Ideal) (φ := .f32) .ogt
        (matmul dot_S1x256_S256x2048_S1x2048_1_0_0_1_n_n none kb M (constant S1x2048 .f32 0x00000000#32) (ix2 0 c))
        (Ideal.ofBits .f32 0x3F000000#32)).setWidth 32)
    * FloatOps.sitofp (F := Ideal) .f32
      ((IntOp.cmpi .sge (iota .tc S1x2048 32 [1] iota_S1x2048_d1_w32 (ix2 0 c)) (BitVec.ofNat 32 b + 256#32)).setWidth 32)) = _
  rw [shapeCast_self, hR, hm, sitofp_bit, sitofp_bit, iota_single_apply, Ideal.ofBits_one_f32, ofBits_half, flag_mul, one_sub_flag, flag_mul]
  refine flag_congr ?_
  rw [ogt_bit, half_lt_sum]
  have e : (IntOp.cmpi .sge (BitVec.ofNat 32 ((ix2 (0 : Fin 1) c : S1x2048.Idx) 1).val) (BitVec.ofNat 32 b + 256#32) = 1#1) ↔ b + 256 ≤ c.val := by
    show IntOp.cmpi .sge (BitVec.ofNat 32 c.val) (BitVec.ofNat 32 b + BitVec.ofNat 32 256) = 1#1 ↔ _
    rw [← BitVec.ofNat_add, WordCmp.cmpi_sge_ofNat (by omega) (by omega), WordCmp.ofBool_eq_one_iff, decide_eq_true_eq]
  rw [e]
  refine and_congr_right fun _ => not_congr (and_congr_left fun _ => ?_)
  exact ⟨fun ⟨r, h⟩ => ⟨r.val, r.isLt, h⟩, fun ⟨r, hr, h⟩ => ⟨⟨r, hr⟩, h⟩⟩

end Cert.KernelIdeal.Hand
-- ==== Proof.Region.Matrix.lean ====
/- The overlap matrix of one block of the suppression kernel, at one entry: row box `r` of the block against column
   box `c`, as the flag of their overlapping too much. -/
module

public import proofs.«01_k».proof.Proof.Gen.KernelIdeal.Skeleton
public import proofs.«01_k».proof.Proof.Value.Flags
public import proofs.«01_k».proof.Proof.Value.Overlap
public import Idealize.ShloMosaic.Lib.Pipeline.Value

@[expose] public section

set_option maxRecDepth 16384

noncomputable section

namespace Cert.KernelIdeal.Hand

open Cert.KernelIdeal.Gen Cert.Flags Cert.Overlap
open Idealize.ShloMosaic Idealize.ShloMosaic.ValueIdx

/-- A column of 256 values spread over the matrix reads its row's value. -/
theorem spread_col (x : FVec Ideal S256x1 .f32) (r : Fin 256) (c : Fin 2048) :
    broadcastTo S256x2048 x broadcasts_S256x1_S256x2048 (ix2 r c) = x (ix2 r 0) :=
  broadcastTo_apply x _ _ _ fun a => by fin_cases a <;> rfl

/-- A row of 2048 values spread over the matrix reads its column's value. -/
theorem spread_row (x : FVec Ideal S1x2048 .f32) (r : Fin 256) (c : Fin 2048) :
    broadcastTo S256x2048 x broadcasts_S1x2048_S256x2048 (ix2 r c) = x (ix2 0 c) :=
  broadcastTo_apply x _ _ _ fun a => by fin_cases a <;> rfl

/-- The areas of the column boxes. -/
theorem pay6_apply (x1 y1 x2 y2 : Vec Ideal S1x2048 .f32) (c : Fin 2048) :
    k0_pay6 (F := Ideal) x1 y1 x2 y2 (ix2 0 c) = area ![x1 (ix2 0 c), y1 (ix2 0 c), x2 (ix2 0 c), y2 (ix2 0 c)] := by
  unfold k0_pay6 k0_pay2 k0_pay3 k0_pay4 k0_pay5
  simp only [shapeCast_self]
  rfl

/-- An entry of the overlap matrix. -/
theorem pay11_apply (x1 y1 x2 y2 : Vec Ideal S1x2048 .f32) (u1 w1 u2 w2 : Vec Ideal S256x1 .f32) (r : Fin 256) (c : Fin 2048) :
    k0_pay11 (F := Ideal) (k0_pay2 x1) (k0_pay3 y1) (k0_pay4 x2) (k0_pay5 y2) (k0_pay6 x1 y1 x2 y2) u1 w1 u2 w2 (ix2 r c)
      = flag (Over ![u1 (ix2 r 0), w1 (ix2 r 0), u2 (ix2 r 0), w2 (ix2 r 0)]
          ![x1 (ix2 0 c), y1 (ix2 0 c), x2 (ix2 0 c), y2 (ix2 0 c)]) := by
  unfold k0_pay11
  show FloatOps.sitofp (F := Ideal) .f32 ((FloatOps.cmpf (F := Ideal) (φ := .f32) .ogt _ _).setWidth 32) = _
  rw [sitofp_bit]
  refine flag_congr ?_
  rw [ogt_bit]
  unfold k0_pay2 k0_pay3 k0_pay4 k0_pay5
  simp only [divf_apply, mulf_apply, maximumf_apply, minimumf_apply, subf_apply, addf_apply, broadcast_apply, spread_col, spread_row,
    shapeCast_self, pay6_apply]
  unfold Over ratio shared
  rw [← Ideal.ofBits_zero_f32]
  exact Iff.rfl

end Cert.KernelIdeal.Hand
-- ==== Proof.Region.Trip.lean ====
/- One trip of the suppression kernel's outer loop, as keep flags.

   Before the trip of block `k` the row holds, at each position, whether it is below 2000 and not overlapped by a
   kept position below `256 k`. The trip stores the block's overlap matrix, lets the inner loop settle the block's own
   256 positions one kept position at a time, and then clears every later position some kept position of the block
   overlaps: the row then holds the same statement at `256 (k + 1)`. -/
module

public import proofs.«01_k».proof.Proof.Region.Loop
public import proofs.«01_k».proof.Proof.Region.Payload
public import proofs.«01_k».proof.Proof.Region.Matrix
public import proofs.«01_k».proof.Proof.Value.Greedy
public import Idealize.ShloMosaic.Lib.VecWindow

@[expose] public section

set_option maxRecDepth 16384

noncomputable section

namespace Cert.KernelIdeal.Hand

open Cert.KernelIdeal.Gen Cert.Flags Cert.Overlap Cert.Suppress
open Idealize.ShloMosaic Idealize.ShloMosaic.TcCoe Idealize.ShloMosaic.ValueIdx

section Pieces

variable {F : FTy → Type} [FloatOps F]

variable (c : Dev nD)
  (arg0 : Memref sig .tc .vmem S1x2048 .f32) (harg0 : arg0.IsWhole) (arg1 : Memref sig .tc .vmem S1x2048 .f32) (harg1 : arg1.IsWhole)
  (arg2 : Memref sig .tc .vmem S1x2048 .f32) (harg2 : arg2.IsWhole) (arg3 : Memref sig .tc .vmem S1x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S1x2048 .f32) (harg8 : arg8.IsWhole) (arg9 : Memref sig .tc .vmem S256x2048 .f32) (harg9 : arg9.IsWhole)
  (v6 v8 v10 v12 : Vec F S1x2048 .f32)
  (X4 : BufTy.Contents (Elt F) arg4.view.ty) (X5 : BufTy.Contents (Elt F) arg5.view.ty)
  (X6 : BufTy.Contents (Elt F) arg6.view.ty) (X7 : BufTy.Contents (Elt F) arg7.view.ty)

/-- What one trip of the inner loop yields. -/
theorem inner_yield (k1 : Fin k0_t1_loop.trips) (X : BufTy.Contents (Elt F) arg9.view.ty) (k : Fin k0_t2_loop.trips) (acc : FVec F S1x256 .f32) :
    tripR_k0_t2 Variants.none c none arg0 harg0 arg1 harg1 arg2 harg2 arg3 harg3 arg4 harg4 arg5 harg5 arg6 harg6 arg7 harg7 arg8 harg8 arg9 harg9 k1 X k acc
      = k0_pay9 k acc (View.readAt (Elt F) arg9.view (Rect.unit (s := S256x2048) (k0_off3 k1 k) S1x256.size (k0_off3_inb k1 k)).toLoadRect X) := by
  unfold tripR_k0_t2 trip_k0_t2
  rfl

/-- Block `k`'s overlap matrix. -/
def blockMat (k : Fin k0_t1_loop.trips) : FVec F S256x2048 .f32 :=
  k0_pay11 (k0_pay2 v6) (k0_pay3 v8) (k0_pay4 v10) (k0_pay5 v12) (k0_pay6 v6 v8 v10 v12)
    (View.readAt (Elt F) arg4.view (Rect.unit (s := S2048x1) (k0_off1 k) S256x1.size (k0_off1_inb k)).toLoadRect X4)
    (View.readAt (Elt F) arg5.view (Rect.unit (s := S2048x1) (k0_off1 k) S256x1.size (k0_off1_inb k)).toLoadRect X5)
    (View.readAt (Elt F) arg6.view (Rect.unit (s := S2048x1) (k0_off1 k) S256x1.size (k0_off1_inb k)).toLoadRect X6)
    (View.readAt (Elt F) arg7.view (Rect.unit (s := S2048x1) (k0_off1 k) S256x1.size (k0_off1_inb k)).toLoadRect X7)

/-- The block's flags before trip `q` of the inner loop. -/
def blockRow (k : Fin k0_t1_loop.trips) (g : BufTy.Contents (Elt F) arg8.view.ty) (q : ℕ) : FVec F S1x256 .f32 :=
  st_k0_t2 Variants.none c none arg0 harg0 arg1 harg1 arg2 harg2 arg3 harg3 arg4 harg4 arg5 harg5 arg6 harg6 arg7 harg7 arg8 harg8 arg9 harg9 k
    (arg9.view.writes (Elt F) arg9.view.junk [⟨Rect.unit (s := S256x2048) ![0, 0] S256x2048.size inb_S256x2048_S256x2048_0_0, k0_pay7 (blockMat arg4 arg5 arg6 arg7 v6 v8 v10 v12 X4 X5 X6 X7 k)⟩])
    (k0_pay8 (View.readAt (Elt F) arg8.view (Rect.unit (s := S1x2048) (k0_off2 k) S1x256.size (k0_off2_inb k)).toLoadRect g)) q

/-- The trip's two stores into the row: the block's own flags, then the whole row. -/
theorem outer_pieces (k : Fin k0_t1_loop.trips) (g : BufTy.Contents (Elt F) arg8.view.ty) :
    (outerTrip c arg0 harg0 arg1 harg1 arg2 harg2 arg3 harg3 arg4 harg4 arg5 harg5 arg6 harg6 arg7 harg7 arg8 harg8 arg9 harg9 v6 v8 v10 v12 X4 X5 X6 X7 k g).1
      = [⟨Rect.unit (s := S1x2048) ![0, 0] S1x2048.size inb_S1x2048_S1x2048_0_0,
          k0_pay10 (Scalar.muli (Scf.iv 0#32 1#32 k) 256#32) (blockMat arg4 arg5 arg6 arg7 v6 v8 v10 v12 X4 X5 X6 X7 k)
            (blockRow c arg0 harg0 arg1 harg1 arg2 harg2 arg3 harg3 arg4 harg4 arg5 harg5 arg6 harg6 arg7 harg7 arg8 harg8 arg9 harg9 v6 v8 v10 v12 X4 X5 X6 X7 k g k0_t2_loop.trips)
            (View.readAt (Elt F) arg8.view (Rect.unit (s := S1x2048) ![0, 0] S1x2048.size inb_S1x2048_S1x2048_0_0).toLoadRect
              (arg8.view.writes (Elt F) g [⟨Rect.unit (s := S1x2048) (k0_off2 k) S1x256.size (k0_off2_inb k),
                blockRow c arg0 harg0 arg1 harg1 arg2 harg2 arg3 harg3 arg4 harg4 arg5 harg5 arg6 harg6 arg7 harg7 arg8 harg8 arg9 harg9 v6 v8 v10 v12 X4 X5 X6 X7 k g k0_t2_loop.trips⟩]))⟩,
        ⟨Rect.unit (s := S1x2048) (k0_off2 k) S1x256.size (k0_off2_inb k),
          blockRow c arg0 harg0 arg1 harg1 arg2 harg2 arg3 harg3 arg4 harg4 arg5 harg5 arg6 harg6 arg7 harg7 arg8 harg8 arg9 harg9 v6 v8 v10 v12 X4 X5 X6 X7 k g k0_t2_loop.trips⟩] := by
  unfold outerTrip
  rfl

end Pieces

section Values

variable (c : Dev nD)
  (arg0 : Memref sig .tc .vmem S1x2048 .f32) (harg0 : arg0.IsWhole) (arg1 : Memref sig .tc .vmem S1x2048 .f32) (harg1 : arg1.IsWhole)
  (arg2 : Memref sig .tc .vmem S1x2048 .f32) (harg2 : arg2.IsWhole) (arg3 : Memref sig .tc .vmem S1x2048 .f32) (harg3 : arg3.IsWhole)
  (arg4 : Memref sig .tc .vmem S2048x1 .f32) (harg4 : arg4.IsWhole) (arg5 : Memref sig .tc .vmem S2048x1 .f32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S1x2048 .f32) (harg8 : arg8.IsWhole) (arg9 : Memref sig .tc .vmem S256x2048 .f32) (harg9 : arg9.IsWhole)
  (v6 v8 v10 v12 : Vec Ideal S1x2048 .f32)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (box : ℕ → Fin 4 → EReal)

theorem block_lt (k : Fin k0_t1_loop.trips) (r : Fin 256) : 256 * k.val + r.val < 2048 := by
  have := lt_of_lt_of_eq k.isLt trips1
  omega

/-- Block `k`'s rows of a column-shaped array. -/
theorem col_read (a : Memref sig .tc .vmem S2048x1 .f32) (X : BufTy.Contents (Elt Ideal) a.view.ty) (k : Fin k0_t1_loop.trips) (r : Fin 256) :
    View.readAt (Elt Ideal) a.view (Rect.unit (s := S2048x1) (k0_off1 k) S256x1.size (k0_off1_inb k)).toLoadRect X (ix2 r 0)
      = a.view.read (Elt Ideal) X (ix2 ⟨256 * k.val + r.val, block_lt k r⟩ 0) := by
  rw [View.readAt_unit a.view X (k0_off1_inb k) (Gen.k0_off1_eq k) (by rw [← Gen.k0_off1_eq k]; exact k0_off1_inb k)]
  refine congrArg (a.view.read (Elt Ideal) X) (funext fun b => Fin.ext ?_)
  fin_cases b
  · show 256 * k.val + 1 * r.val = 256 * k.val + r.val
    omega
  · rfl

/-- Block `k`'s positions of the row. -/
theorem row_read (g : BufTy.Contents (Elt Ideal) arg8.view.ty) (k : Fin k0_t1_loop.trips) (l : Fin 256) :
    View.readAt (Elt Ideal) arg8.view (Rect.unit (s := S1x2048) (k0_off2 k) S1x256.size (k0_off2_inb k)).toLoadRect g (ix2 0 l)
      = arg8.view.read (Elt Ideal) g (ix2 0 ⟨256 * k.val + l.val, block_lt k l⟩) := by
  rw [View.readAt_unit arg8.view g (k0_off2_inb k) (Gen.k0_off2_eq k) (by rw [← Gen.k0_off2_eq k]; exact k0_off2_inb k)]
  refine congrArg (arg8.view.read (Elt Ideal) g) (funext fun b => Fin.ext ?_)
  fin_cases b
  · rfl
  · show 256 * k.val + 1 * l.val = 256 * k.val + l.val
    omega

/-- Row `q` of the scratch matrix, at block `k`'s own columns. -/
theorem mat_read (X : BufTy.Contents (Elt Ideal) arg9.view.ty) (k : Fin k0_t1_loop.trips) (q : Fin k0_t2_loop.trips) (l : Fin 256) :
    View.readAt (Elt Ideal) arg9.view (Rect.unit (s := S256x2048) (k0_off3 k q) S1x256.size (k0_off3_inb k q)).toLoadRect X (ix2 0 l)
      = arg9.view.read (Elt Ideal) X (ix2 ⟨q.val, lt_of_lt_of_eq q.isLt trips2⟩ ⟨256 * k.val + l.val, block_lt k l⟩) := by
  rw [View.readAt_unit arg9.view X (k0_off3_inb k q) (Gen.k0_off3_eq k q) (by rw [← Gen.k0_off3_eq k q]; exact k0_off3_inb k q)]
  refine congrArg (arg9.view.read (Elt Ideal) X) (funext fun b => Fin.ext ?_)
  fin_cases b
  · rfl
  · show 256 * k.val + 1 * l.val = 256 * k.val + l.val
    omega

/-- The row after a store of block `k`'s positions: `w` inside the block, the old row outside. -/
theorem row_put (g : BufTy.Contents (Elt Ideal) arg8.view.ty) (k : Fin k0_t1_loop.trips) (w : FVec Ideal S1x256 .f32) (j : Fin 2048) :
    arg8.view.read (Elt Ideal) (arg8.view.writes (Elt Ideal) g [⟨Rect.unit (s := S1x2048) (k0_off2 k) S1x256.size (k0_off2_inb k), w⟩]) (ix2 0 j)
      = if h : 256 * k.val ≤ j.val ∧ j.val < 256 * k.val + 256 then w (ix2 0 ⟨j.val - 256 * k.val, by omega⟩)
        else arg8.view.read (Elt Ideal) g (ix2 0 j) := by
  rw [View.read_writes_cons_put arg8.view g (k0_off2_inb k) w [] (Gen.k0_off2_eq k), View.writes_nil]
  unfold VecWindow.put
  by_cases h : 256 * k.val ≤ j.val ∧ j.val < 256 * k.val + 256
  · rw [dif_pos h, dif_pos (fun a => by
      fin_cases a
      · exact ⟨Nat.zero_le _, Nat.zero_lt_one⟩
      · exact h)]
    refine congrArg w (funext fun b => Fin.ext ?_)
    fin_cases b <;> rfl
  · rw [dif_neg h, dif_neg (fun H => h (H 1))]

/-- The coordinates the trip reads are the boxes': the row-shaped arrays and the column-shaped ones hold the same. -/
def Boxes : Prop :=
  (∀ i : Fin 2048, ![v6 (ix2 0 i), v8 (ix2 0 i), v10 (ix2 0 i), v12 (ix2 0 i)] = box i.val)
  ∧ ∀ r : Fin 2048, ![arg4.view.read (Elt Ideal) X4 (ix2 r 0), arg5.view.read (Elt Ideal) X5 (ix2 r 0),
      arg6.view.read (Elt Ideal) X6 (ix2 r 0), arg7.view.read (Elt Ideal) X7 (ix2 r 0)] = box r.val

/-- Position `i` is overlapped by position `j`. -/
def Hits (j i : ℕ) : Prop := Over (box j) (box i)

variable (hbox : Boxes arg4 arg5 arg6 arg7 v6 v8 v10 v12 X4 X5 X6 X7 box)

include hbox in
theorem blockMat_apply (k : Fin k0_t1_loop.trips) (r : Fin 256) (i : Fin 2048) :
    blockMat arg4 arg5 arg6 arg7 v6 v8 v10 v12 X4 X5 X6 X7 k (ix2 r i) = flag (Hits box (256 * k.val + r.val) i.val) := by
  unfold blockMat Hits
  rw [pay11_apply, col_read, col_read, col_read, col_read, hbox.1, hbox.2]

/-- The row holds what the positions below `p` leave of each position. -/
def Holds (p : ℕ) (g : BufTy.Contents (Elt Ideal) arg8.view.ty) : Prop :=
  ∀ i : Fin 2048, arg8.view.read (Elt Ideal) g (ix2 0 i) = flag (Upto 2000 (Hits box) p i.val)

include hbox in
/-- The inner loop: before trip `q` the block's flags are what the positions below `256 k + q` leave. -/
theorem blockRow_apply (k : Fin k0_t1_loop.trips) (g : BufTy.Contents (Elt Ideal) arg8.view.ty) (hg : Holds arg8 box (256 * k.val) g)
    (q : ℕ) (hq : q ≤ 256) (l : Fin 256) :
    blockRow c arg0 harg0 arg1 harg1 arg2 harg2 arg3 harg3 arg4 harg4 arg5 harg5 arg6 harg6 arg7 harg7 arg8 harg8 arg9 harg9 v6 v8 v10 v12 X4 X5 X6 X7 k g q (ix2 0 l)
      = flag (Upto 2000 (Hits box) (256 * k.val + q) (256 * k.val + l.val)) := by
  unfold blockRow
  induction q generalizing l with
  | zero =>
    rw [st_k0_t2_zero]
    unfold k0_pay8
    rw [shapeCast_self, row_read]
    exact hg _
  | succ q ih =>
    have hq' : q < k0_t2_loop.trips := lt_of_lt_of_eq (by omega) trips2.symm
    rw [st_k0_t2_succ _ _ _ _ _ _ _ _ _ _ _ _ _ _ _ _ _ _ _ _ _ _ _ _ _ _ ⟨q, hq'⟩, inner_yield]
    rw [pay9_apply ⟨q, hq'⟩ _ _ (fun l => Upto 2000 (Hits box) (256 * k.val + q) (256 * k.val + l)) (fun l => ih (by omega) l)
      (fun l => Hits box (256 * k.val + q) (256 * k.val + l)) (fun l => by
        rw [mat_read, View.read_writes_full]
        unfold k0_pay7
        rw [shapeCast_self]
        exact blockMat_apply arg4 arg5 arg6 arg7 v6 v8 v10 v12 X4 X5 X6 X7 box hbox k _ _)]
    refine flag_congr ?_
    rw [← Nat.add_assoc, upto_succ, upto_of_le (i := 256 * k.val + q) (p := 256 * k.val + q) le_rfl]
    refine and_congr_right fun _ => not_congr (and_congr_right fun _ => and_congr_right fun _ => ?_)
    show q < l.val ↔ _
    omega

include hbox in
/-- The outer trip. -/
theorem outer_step (k : Fin k0_t1_loop.trips) (g : BufTy.Contents (Elt Ideal) arg8.view.ty) (hg : Holds arg8 box (256 * k.val) g) :
    Holds arg8 box (256 * (k.val + 1)) (arg8.view.writes (Elt Ideal) g
      (outerTrip c arg0 harg0 arg1 harg1 arg2 harg2 arg3 harg3 arg4 harg4 arg5 harg5 arg6 harg6 arg7 harg7 arg8 harg8 arg9 harg9 v6 v8 v10 v12 X4 X5 X6 X7 k g).1) := by
  have hk : k.val < 8 := lt_of_lt_of_eq k.isLt trips1
  have hb := blockRow_apply c arg0 harg0 arg1 harg1 arg2 harg2 arg3 harg3 arg4 harg4 arg5 harg5 arg6 harg6 arg7 harg7 arg8 harg8 arg9 harg9
    v6 v8 v10 v12 X4 X5 X6 X7 box hbox k g hg k0_t2_loop.trips (le_of_eq trips2)
  intro i
  have hi := i.isLt
  have hw : Scalar.muli (Scf.iv 0#32 1#32 k) 256#32 = BitVec.ofNat 32 (256 * k.val) := by
    show (0#32 + BitVec.ofNat 32 k.val * 1#32) * 256#32 = _
    apply BitVec.eq_of_toNat_eq
    simp [Nat.mul_comm]
  rw [outer_pieces, View.read_writes_full, hw]
  rw [pay10_apply (256 * k.val) (by omega) _ _ _
    (fun l => Upto 2000 (Hits box) (256 * k.val + k0_t2_loop.trips) (256 * k.val + l)) (fun l => hb l)
    (fun r i => Hits box (256 * k.val + r) i) (fun r i => blockMat_apply arg4 arg5 arg6 arg7 v6 v8 v10 v12 X4 X5 X6 X7 box hbox k r i)
    (fun i => if 256 * k.val ≤ i ∧ i < 256 * k.val + 256 then Upto 2000 (Hits box) (256 * k.val + 256) i
      else Upto 2000 (Hits box) (256 * k.val) i) (fun i => by
        rw [View.readAt_full, row_put]
        by_cases h : 256 * k.val ≤ i.val ∧ i.val < 256 * k.val + 256
        · rw [dif_pos h, hb]
          refine flag_congr ?_
          rw [if_pos h, trips2, Nat.add_sub_cancel' h.1]
        · rw [dif_neg h, hg i]
          refine flag_congr ?_
          rw [if_neg h])]
  refine flag_congr ?_
  rw [trips2, Nat.mul_add]
  by_cases hlate : 256 * k.val + 256 ≤ i.val
  · rw [if_neg (by omega), upto_block hlate]
    refine and_congr_right fun _ => not_congr ((and_iff_left hlate).trans (exists_congr fun r => and_congr_right fun hr => ?_))
    rw [upto_of_le (by omega)]
  · rw [and_iff_left (fun h => hlate h.2)]
    by_cases h : 256 * k.val ≤ i.val
    · rw [if_pos ⟨h, by omega⟩]
    · rw [if_neg (fun H => h H.1), upto_of_le (by omega), upto_of_le (by omega)]

include hbox in
/-- The row before trip `k` of the outer loop. -/
theorem rowAt_holds (g : BufTy.Contents (Elt Ideal) arg8.view.ty) (hg : Holds arg8 box 0 g) (k : ℕ) (hk : k ≤ 8) :
    Holds arg8 box (256 * k) (rowAt c arg0 harg0 arg1 harg1 arg2 harg2 arg3 harg3 arg4 harg4 arg5 harg5 arg6 harg6 arg7 harg7 arg8 harg8 arg9 harg9 v6 v8 v10 v12 X4 X5 X6 X7 g k) := by
  induction k with
  | zero => exact hg
  | succ k ih =>
    have h : k < k0_t1_loop.trips := lt_of_lt_of_eq (by omega) trips1.symm
    rw [rowAt, dif_pos h]
    exact outer_step c arg0 harg0 arg1 harg1 arg2 harg2 arg3 harg3 arg4 harg4 arg5 harg5 arg6 harg6 arg7 harg7 arg8 harg8 arg9 harg9
      v6 v8 v10 v12 X4 X5 X6 X7 box hbox ⟨k, h⟩ _ (ih (by omega))

end Values

end Cert.KernelIdeal.Hand

end
-- ==== Proof.Region.Row.lean ====
/- The keep row the launch leaves in its result array.

   The grid has one point and every window's block is its whole array, so the body reads the eight coordinate arrays as
   the host lines left them and the row it stores is the whole result array. When those arrays hold the coordinates of
   2048 boxes, position `i` of the row says whether box `i` is kept among the first 2000. -/
module

public import proofs.«01_k».proof.Proof.Region.Run
public import proofs.«01_k».proof.Proof.Region.Trip

@[expose] public section

set_option maxRecDepth 16384

noncomputable section

namespace Cert.KernelIdeal.Hand

open Cert.KernelIdeal.Gen Cert.Flags Cert.Suppress
open Idealize.ShloMosaic Idealize.ShloMosaic.TcCoe Idealize.ShloMosaic.ValueIdx
open Idealize.ShloMosaic.Pipeline (Dat)

section Blocks

variable {F : FTy → Type} [FloatOps F]
variable (m : (ℓ : Loc nD τ sig) → Buf (Elt F) ℓ)

/-- Every window's block index is zero on both axes. -/
theorem idx_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- A block at block index zero reads the array where it stands. -/
theorem idx_back {s : Shape} (i j : s.Idx) (k : Fin s.rank → ℕ) (hk : ∀ a, k a = 0) (h : ∀ a, (i a).val = k a * s.size a + 1 * (j a).val) : i = j :=
  funext fun a => Fin.ext (by rw [h a, hk a]; omega)

theorem iblk0 (c : Dev nD) (t : Fin cfg0.N) : iblk m c 0 t = V m c main_call1_v2 := by
  have h := (idx_zero t).1
  funext j
  exact congrArg (V m c main_call1_v2) (idx_back (s := S1x2048) _ j (win0_0.index t) (Fin.forall_fin_two.2 h) fun _ => rfl)

theorem iblk1 (c : Dev nD) (t : Fin cfg0.N) : iblk m c 1 t = V m c main_call1_v5 := by
  have h := (idx_zero t).2.1
  funext j
  exact congrArg (V m c main_call1_v5) (idx_back (s := S1x2048) _ j (win0_1.index t) (Fin.forall_fin_two.2 h) fun _ => rfl)

theorem iblk2 (c : Dev nD) (t : Fin cfg0.N) : iblk m c 2 t = V m c main_call1_v8 := by
  have h := (idx_zero t).2.2.1
  funext j
  exact congrArg (V m c main_call1_v8) (idx_back (s := S1x2048) _ j (win0_2.index t) (Fin.forall_fin_two.2 h) fun _ => rfl)

theorem iblk3 (c : Dev nD) (t : Fin cfg0.N) : iblk m c 3 t = V m c main_call1_v11 := by
  have h := (idx_zero t).2.2.2.1
  funext j
  exact congrArg (V m c main_call1_v11) (idx_back (s := S1x2048) _ j (win0_3.index t) (Fin.forall_fin_two.2 h) fun _ => rfl)

theorem iblk4 (c : Dev nD) (t : Fin cfg0.N) : iblk m c 4 t = V m c main_call1_v14 := by
  have h := (idx_zero t).2.2.2.2.1
  funext j
  exact congrArg (V m c main_call1_v14) (idx_back (s := S2048x1) _ j (win0_4.index t) (Fin.forall_fin_two.2 h) fun _ => rfl)

theorem iblk5 (c : Dev nD) (t : Fin cfg0.N) : iblk m c 5 t = V m c main_call1_v17 := by
  have h := (idx_zero t).2.2.2.2.2.1
  funext j
  exact congrArg (V m c main_call1_v17) (idx_back (s := S2048x1) _ j (win0_5.index t) (Fin.forall_fin_two.2 h) fun _ => rfl)

theorem iblk6 (c : Dev nD) (t : Fin cfg0.N) : iblk m c 6 t = V m c main_call1_v20 := by
  have h := (idx_zero t).2.2.2.2.2.2.1
  funext j
  exact congrArg (V m c main_call1_v20) (idx_back (s := S2048x1) _ j (win0_6.index t) (Fin.forall_fin_two.2 h) fun _ => rfl)

theorem iblk7 (c : Dev nD) (t : Fin cfg0.N) : iblk m c 7 t = V m c main_call1_v23 := by
  have h := (idx_zero t).2.2.2.2.2.2.2.1
  funext j
  exact congrArg (V m c main_call1_v23) (idx_back (s := S2048x1) _ j (win0_7.index t) (Fin.forall_fin_two.2 h) fun _ => rfl)

/-- The one grid point. -/
abbrev point : Fin cfg0.N := ⟨0, by decide⟩

theorem emb8 (t : Fin cfg0.N) (j : S1x2048.Idx) : ((cfg0.win 8).blk t).view.emb j = j :=
  idx_back (s := S1x2048) _ j (win0_8.index t) (Fin.forall_fin_two.2 (idx_zero t).2.2.2.2.2.2.2.2) fun _ => rfl

/-- Cutting the point's block out of a row and reading the row through the block's view give the same. -/
theorem cut8 (t : Fin cfg0.N) (X : Vec F S1x2048 .f32) :
    (cfg0.win 8).cut (grid0.coords t) X = ((cfg0.win 8).blk t).view.read (Elt F) X := by
  funext j
  show X j = X (((cfg0.win 8).blk t).view.emb j)
  rw [emb8]

theorem covered8 (i : S1x2048.Idx) : ∃ t : Fin cfg0.N, (cfg0.win 8).flush t = true ∧ i ∈ ((cfg0.win 8).blk t).view.set :=
  ⟨point, flush0_8 _, by
    have h := ((cfg0.win 8).blk point).view.emb_mem_set i
    rwa [emb8] at h⟩

theorem flushed8 (c : Dev nD) (t : Fin cfg0.N) (X : Vec F S1x2048 .f32) (h : (dats m 0 c).after 8 t = X) :
    (dats m 0 c).flushed 8 t = ((cfg0.win 8).blk t).view.read (Elt F) X := by
  rw [← cut8 t X, ← h]

/-- The result array after the launch is the row the body leaves. -/
theorem row_final (c : Dev nD) : (dats m 0 c).arrAt 8 cfg0.N = rowOut m c point :=
  (dats m 0 c).arrAt_eq_of_cover 8 _ (fun t _ => flushed8 m c t _ (by
    obtain rfl : t = point := Fin.ext (by have : t.val < 1 := t.isLt; show t.val = 0; omega)
    exact after_row m c point)) covered8

end Blocks

section Values

variable (m : (ℓ : Loc nD τ sig) → Buf (Elt Ideal) ℓ) (c : Dev nD) (box : ℕ → Fin 4 → EReal)

/-- The eight coordinate arrays hold the boxes: four as rows, four as columns. -/
def Loaded : Prop :=
  (∀ i : Fin 2048, ![V m c main_call1_v2 (ix2 0 i), V m c main_call1_v5 (ix2 0 i), V m c main_call1_v8 (ix2 0 i), V m c main_call1_v11 (ix2 0 i)] = box i.val)
  ∧ ∀ r : Fin 2048, ![V m c main_call1_v14 (ix2 r 0), V m c main_call1_v17 (ix2 r 0), V m c main_call1_v20 (ix2 r 0), V m c main_call1_v23 (ix2 r 0)] = box r.val

/-- The row's flags. -/
theorem row_apply (h : Loaded m c box) (i : Fin 2048) :
    (dats m 0 c).arrAt 8 cfg0.N (ix2 0 i) = flag (Kept 2000 (Hits box) i.val) := by
  rw [row_final]
  unfold rowOut rowOf
  rw [iblk0, iblk1, iblk2, iblk3, iblk4, iblk5, iblk6, iblk7]
  have hi := i.isLt
  refine (rowAt_holds c _ _ _ _ _ _ _ _ _ _ _ _ _ _ _ _ _ _ _ _ _ _ _ _ _ _ _ _ box ⟨fun i => ?_, fun r => ?_⟩ _ (fun i => ?_) 8 le_rfl i).trans ?_
  · rw [View.readAt_full, View.readAt_full, View.readAt_full, View.readAt_full]
    rw [Memref.IsWhole.read_unread, Memref.IsWhole.read_unread, Memref.IsWhole.read_unread, Memref.IsWhole.read_unread]
    exact h.1 i
  · rw [Memref.IsWhole.read_unread, Memref.IsWhole.read_unread, Memref.IsWhole.read_unread, Memref.IsWhole.read_unread]
    exact h.2 r
  · rw [View.read_writes_full, pay1_apply]
    exact flag_congr (upto_zero _).symm
  · exact flag_congr (upto_of_le (by omega))

end Values

end Cert.KernelIdeal.Hand

end
-- ==== Proof.Region.Entry.lean ====
/- What the host lines before the launch leave: the best scores and boxes, the boxes padded to 2048 rows, and the
   padded array's four columns, each once as a row and once as a column. -/
module

public import proofs.«01_k».proof.Proof.Region.Row
public import proofs.«01_k».proof.Proof.Value.Shared
public import proofs.«01_k».proof.Proof.Value.Columns
public import Idealize.ShloMosaic.Lib.Routing.OpsSet
public import Idealize.ShloMosaic.Lib.Routing.OpsPair
public import Idealize.ShloMosaic.Lib.StableHlo.RunRead

@[expose] public section

set_option maxRecDepth 16384

noncomputable section

namespace Cert.KernelIdeal.Hand

open Cert.KernelIdeal.Gen Cert.Flags Cert.Suppress
open Idealize.ShloMosaic Idealize.ShloMosaic.TcCoe Idealize.ShloMosaic.ValueIdx Idealize.ShloMosaic.StableHlo

section Reads

variable {F : FTy → Type} [FloatOps F]
variable (m : (ℓ : Loc nD τ sig) → Buf (Elt F) ℓ) (c : Dev nD)

/-- The arguments as launched. -/
abbrev argB : Vec F S20000x4 .f32 := m ((c : Thread nD τ).loc main_arg0)
abbrev argS : Vec F S20000 .f32 := m ((c : Thread nD τ).loc main_arg1)

/-- The best boxes, padded to 2048 rows with zeros. -/
def padded (boxes : Vec F S2000x4 .f32) : Vec F S2048x4 .f32 :=
  Host.scatter scatter_S2048x4_S1_S2000x4_01_n_0_0 (fun _ b => b)
    (broadcastInDim S2048x4 ![] bcast_S_S2048x4 (constant (F := F) S_ .f32 0x00000000#32))
    (broadcastInDim S1 ![] bcast_S_S1 (constantI S_ 32 0#32)) boxes

/-- The host lines before the launch, one list after another. -/
theorem V0_steps : V0 m c = after hostOps0_3 (after hostOps0_2 (after hostOps0_1 (after hostOps0 fun b => m (c, b)))) := by
  unfold V0
  simp only [List.flatten_cons, List.flatten_nil, List.append_nil, after_append]

theorem entry_vals : V m c main_values = topVals (argB m c) (argS m c) := by
  rw [V, V0_steps]
  after_reads_simp
  rfl

theorem entry_boxes : V m c main_v22 = topBoxes (argB m c) (argS m c) := by
  rw [V, V0_steps]
  after_reads_simp
  rfl

theorem entry_padded : V m c main_v25 = padded (topBoxes (argB m c) (argS m c)) := by
  rw [V, V0_steps]
  after_reads_simp
  rfl

variable (W : (b : DevRef τ sig) → b.ty.Contents (Elt F))

/-! The lines that take the columns out, from any contents: each coordinate array is a column of the padded boxes. -/

theorem read_v2 : after hostOps0_3 W (Proc.devRef .tc main_call1_v2) = shapeCast S1x2048 (shapeCast S2048 (extractStridedSlice S2048x1 ![0, 0] (W (Proc.devRef .tc main_v25)) slices_S2048x4_S2048x1_0_0) shapeCasts_S2048x1_S2048) shapeCasts_S2048_S1x2048 := by
  after_reads_simp
  rfl

theorem read_v5 : after hostOps0_3 W (Proc.devRef .tc main_call1_v5) = shapeCast S1x2048 (shapeCast S2048 (extractStridedSlice S2048x1 ![0, 1] (W (Proc.devRef .tc main_v25)) slices_S2048x4_S2048x1_0_1) shapeCasts_S2048x1_S2048) shapeCasts_S2048_S1x2048 := by
  after_reads_simp
  rfl

theorem read_v8 : after hostOps0_3 W (Proc.devRef .tc main_call1_v8) = shapeCast S1x2048 (shapeCast S2048 (extractStridedSlice S2048x1 ![0, 2] (W (Proc.devRef .tc main_v25)) slices_S2048x4_S2048x1_0_2) shapeCasts_S2048x1_S2048) shapeCasts_S2048_S1x2048 := by
  after_reads_simp
  rfl

theorem read_v11 : after hostOps0_3 W (Proc.devRef .tc main_call1_v11) = shapeCast S1x2048 (shapeCast S2048 (extractStridedSlice S2048x1 ![0, 3] (W (Proc.devRef .tc main_v25)) slices_S2048x4_S2048x1_0_3) shapeCasts_S2048x1_S2048) shapeCasts_S2048_S1x2048 := by
  after_reads_simp
  rfl

theorem read_v14 : after hostOps0_3 W (Proc.devRef .tc main_call1_v14) = shapeCast S2048x1 (shapeCast S2048 (extractStridedSlice S2048x1 ![0, 0] (W (Proc.devRef .tc main_v25)) slices_S2048x4_S2048x1_0_0) shapeCasts_S2048x1_S2048) shapeCasts_S2048_S2048x1 := by
  after_reads_simp
  rfl

theorem read_v17 : after hostOps0_3 W (Proc.devRef .tc main_call1_v17) = shapeCast S2048x1 (shapeCast S2048 (extractStridedSlice S2048x1 ![0, 1] (W (Proc.devRef .tc main_v25)) slices_S2048x4_S2048x1_0_1) shapeCasts_S2048x1_S2048) shapeCasts_S2048_S2048x1 := by
  after_reads_simp
  rfl

theorem read_v20 : after hostOps0_3 W (Proc.devRef .tc main_call1_v20) = shapeCast S2048x1 (shapeCast S2048 (extractStridedSlice S2048x1 ![0, 2] (W (Proc.devRef .tc main_v25)) slices_S2048x4_S2048x1_0_2) shapeCasts_S2048x1_S2048) shapeCasts_S2048_S2048x1 := by
  after_reads_simp
  rfl

theorem read_v23 : after hostOps0_3 W (Proc.devRef .tc main_call1_v23) = shapeCast S2048x1 (shapeCast S2048 (extractStridedSlice S2048x1 ![0, 3] (W (Proc.devRef .tc main_v25)) slices_S2048x4_S2048x1_0_3) shapeCasts_S2048x1_S2048) shapeCasts_S2048_S2048x1 := by
  after_reads_simp
  rfl

theorem read_v25 : after hostOps0_3 W (Proc.devRef .tc main_v25) = W (Proc.devRef .tc main_v25) := by
  after_reads_simp

/-- A column of a matrix laid out as a row. -/
theorem column_row (X : Vec F S2048x4 .f32) (q : Fin 4) (hs : S2048x4.Slices ![0, q.val] S2048x1) (i : Fin 2048) :
    shapeCast S1x2048 (shapeCast S2048 (extractStridedSlice S2048x1 ![0, q.val] X hs) shapeCasts_S2048x1_S2048) shapeCasts_S2048_S1x2048 (ix2 0 i)
      = X (ix2 i q) := by
  rw [shapeCast_a_1a_apply]
  exact Columns.column_apply X q hs _ i

/-- A column of a matrix laid out as a column. -/
theorem column_column (X : Vec F S2048x4 .f32) (q : Fin 4) (hs : S2048x4.Slices ![0, q.val] S2048x1) (i : Fin 2048) :
    shapeCast S2048x1 (shapeCast S2048 (extractStridedSlice S2048x1 ![0, q.val] X hs) shapeCasts_S2048x1_S2048) shapeCasts_S2048_S2048x1 (ix2 i 0)
      = X (ix2 i q) := by
  rw [shapeCast_a_a1_apply]
  exact Columns.column_apply X q hs _ i

end Reads

section Padding

variable {F : FTy → Type} [FloatOps F]

/-- An update of the padding lands in its own place. -/
theorem pad_lands (idx : IVec S1 32) (h : ∀ j, (idx j).toInt = 0) (k : Fin 2000) (q : Fin 4) (i : Fin 2048) (p : Fin 4) :
    scatter_S2048x4_S1_S2000x4_01_n_0_0.resultIdx? (ix2 k q) idx = some (ix2 i p) ↔ k.val = i.val ∧ q = p := by
  have h0 : scatter_S2048x4_S1_S2000x4_01_n_0_0.start (ix2 k q) idx 0 = 0 := h _
  have h1 : scatter_S2048x4_S1_S2000x4_01_n_0_0.start (ix2 k q) idx 1 = 0 := rfl
  have w0 : scatter_S2048x4_S1_S2000x4_01_n_0_0.window (ix2 k q) 0 = k.val := rfl
  have w1 : scatter_S2048x4_S1_S2000x4_01_n_0_0.window (ix2 k q) 1 = q.val := rfl
  rw [Routing.resultIdx?_ix2, h0, h1, w0, w1, Fin.ext_iff]
  omega

theorem padded_apply (boxes : Vec F S2000x4 .f32) (i : Fin 2048) (q : Fin 4) : padded boxes (ix2 i q) = boxOf boxes i.val q := by
  have hz : ∀ j, ((broadcastInDim S1 ![] bcast_S_S1 (constantI S_ 32 0#32)) j).toInt = 0 := fun _ => rfl
  unfold padded boxOf
  by_cases h : i.val < 2000
  · rw [dif_pos h]
    refine Routing.scatter_set_hit _ _ _ _ _ _ (fun k hk => ?_) (ix2 ⟨i.val, h⟩ q) ((pad_lands _ hz _ _ _ _).2 ⟨rfl, rfl⟩)
    rw [eq_ix2 k] at hk ⊢
    obtain ⟨e, rfl⟩ := (pad_lands _ hz _ _ _ _).1 hk
    exact congrArg boxes (congrArg (fun r => ix2 r _) (Fin.ext e))
  · rw [dif_neg h]
    refine (Routing.scatter_set_miss _ _ _ _ _ fun k hk => ?_).trans rfl
    rw [eq_ix2 k] at hk
    have e := (pad_lands _ hz _ _ _ _).1 hk
    exact h (e.1 ▸ (k 0).isLt)

end Padding

section Load

variable (m : (ℓ : Loc nD τ sig) → Buf (Elt Ideal) ℓ) (c : Dev nD)

/-- The contents before the columns are taken out. -/
abbrev uncut : (b : DevRef τ sig) → b.ty.Contents (Elt Ideal) := after hostOps0_2 (after hostOps0_1 (after hostOps0 fun b => m (c, b)))

/-- The lines that take the columns out put column `q` of the padded boxes in the `q`-th row and the `q`-th column. -/
theorem columns (W : (b : DevRef τ sig) → b.ty.Contents (Elt Ideal)) (i : Fin 2048) :
    ![(after hostOps0_3 W (Proc.devRef .tc main_call1_v2) : Vec Ideal S1x2048 .f32) (ix2 0 i), (after hostOps0_3 W (Proc.devRef .tc main_call1_v5) : Vec Ideal S1x2048 .f32) (ix2 0 i),
        (after hostOps0_3 W (Proc.devRef .tc main_call1_v8) : Vec Ideal S1x2048 .f32) (ix2 0 i), (after hostOps0_3 W (Proc.devRef .tc main_call1_v11) : Vec Ideal S1x2048 .f32) (ix2 0 i)]
      = (fun q => (W (Proc.devRef .tc main_v25) : Vec Ideal S2048x4 .f32) (ix2 i q))
    ∧ ![(after hostOps0_3 W (Proc.devRef .tc main_call1_v14) : Vec Ideal S2048x1 .f32) (ix2 i 0), (after hostOps0_3 W (Proc.devRef .tc main_call1_v17) : Vec Ideal S2048x1 .f32) (ix2 i 0),
        (after hostOps0_3 W (Proc.devRef .tc main_call1_v20) : Vec Ideal S2048x1 .f32) (ix2 i 0), (after hostOps0_3 W (Proc.devRef .tc main_call1_v23) : Vec Ideal S2048x1 .f32) (ix2 i 0)]
      = fun q => (W (Proc.devRef .tc main_v25) : Vec Ideal S2048x4 .f32) (ix2 i q) := by
  rw [read_v2, read_v5, read_v8, read_v11, read_v14, read_v17, read_v20, read_v23]
  constructor
  · funext q
    match q with
    | 0 => exact column_row _ 0 slices_S2048x4_S2048x1_0_0 i
    | 1 => exact column_row _ 1 slices_S2048x4_S2048x1_0_1 i
    | 2 => exact column_row _ 2 slices_S2048x4_S2048x1_0_2 i
    | 3 => exact column_row _ 3 slices_S2048x4_S2048x1_0_3 i
  · funext q
    match q with
    | 0 => exact column_column _ 0 slices_S2048x4_S2048x1_0_0 i
    | 1 => exact column_column _ 1 slices_S2048x4_S2048x1_0_1 i
    | 2 => exact column_column _ 2 slices_S2048x4_S2048x1_0_2 i
    | 3 => exact column_column _ 3 slices_S2048x4_S2048x1_0_3 i

/-- The launch finds the padded boxes in its eight coordinate arrays. -/
theorem loaded : Loaded m c (boxOf (topBoxes (argB m c) (argS m c))) := by
  have hp : ∀ i : Fin 2048, (fun q => (uncut m c (Proc.devRef .tc main_v25) : Vec Ideal S2048x4 .f32) (ix2 i q))
      = boxOf (topBoxes (argB m c) (argS m c)) i.val := fun i => funext fun q => by
    rw [← padded_apply, ← entry_padded, V, V0_steps]
    exact congrFun (read_v25 (uncut m c)).symm _
  unfold Loaded V
  rw [V0_steps]
  exact ⟨fun i => ((columns (uncut m c) i).1).trans (hp i), fun i => ((columns (uncut m c) i).2).trans (hp i)⟩

end Load

end Cert.KernelIdeal.Hand

end
-- ==== Proof.Region.Result.lean ====
/- The kernel program's result, as a function of the row of flags the launch leaves. -/
module

public import proofs.«01_k».proof.Proof.Region.Entry

@[expose] public section

set_option maxRecDepth 16384

noncomputable section

namespace Cert.KernelIdeal.Hand

open Cert.KernelIdeal.Gen Cert.Flags Cert.Suppress
open Idealize.ShloMosaic Idealize.ShloMosaic.TcCoe Idealize.ShloMosaic.ValueIdx Idealize.ShloMosaic.StableHlo

variable {F : FTy → Type} [FloatOps F]

/-- The sort keys: a kept position is its own key, a suppressed one is moved behind all kept ones. -/
def keysOf (row : Vec F S1x2048 .f32) : IVec S2000 32 :=
  select
    (cmpf .ogt (shapeCast S2000 (extractStridedSlice S1x2000 ![0, 0] row slices_S1x2048_S1x2000_0_0) shapeCasts_S1x2000_S2000)
      (broadcastInDim S2000 ![] bcast_S_S2000 (constant (F := F) S_ .f32 0x3F000000#32)))
    (iotaInDim S2000 32 0)
    (addi (iotaInDim S2000 32 0) (broadcastInDim S2000 ![] bcast_S_S2000 (constantI S_ 32 2000#32)))

/-- The first 1000 positions in the keys' order. -/
def picked (row : Vec F S1x2048 .f32) : IVec S1000 32 :=
  extractStridedSlice S1000 ![0] (Host.sort2 S2000 0 comparator_i32_i32_d0 (keysOf row) (iotaInDim S2000 32 0)).2 slices_S2000_S1000_0

section Tail

variable (W : (b : DevRef τ sig) → b.ty.Contents (Elt F))

/-! The lines after the launch, list by list, from any contents. -/

theorem finish_read : after hostOps1_3 W (Proc.devRef .tc main_v52)
    = finish (W (Proc.devRef .tc main_v22)) (W (Proc.devRef .tc main_values))
        (extractStridedSlice S1000 ![0] (W (Proc.devRef .tc main_v35) : IVec S2000 32) slices_S2000_S1000_0) := by
  have hb : upto hostOps1_3 W 20 (Proc.devRef .tc main_v43)
      = Host.gather gather_S2000x4_S1000x1_S1000x4_1_0_n_n_0_1_14 (W (Proc.devRef .tc main_v22))
          (wrapped (extractStridedSlice S1000 ![0] (W (Proc.devRef .tc main_v35) : IVec S2000 32) slices_S2000_S1000_0)) := by
    after_reads_simp
    rfl
  have hv : upto hostOps1_3 W 20 (Proc.devRef .tc main_v51)
      = broadcastInDim S1000x1 ![0] bcast_S1000_S1000x1_0 (Host.gather gather_S2000_S1000x1_S1000_n_0_n_n_0_1_1 (W (Proc.devRef .tc main_values))
          (wrapped (extractStridedSlice S1000 ![0] (W (Proc.devRef .tc main_v35) : IVec S2000 32) slices_S2000_S1000_0))) := by
    after_reads_simp
    rfl
  after_reads_simp
  exact congrArg₂ joined hb hv

theorem sort_read : after hostOps1_2 W (Proc.devRef .tc main_v35)
    = (Host.sort2 S2000 0 comparator_i32_i32_d0 (W (Proc.devRef .tc main_v34) : IVec S2000 32) (iotaInDim S2000 32 0)).2 := by
  after_reads_simp
  rfl

theorem keys_read : after hostOps1_1 (after hostOps1 W) (Proc.devRef .tc main_v34) = keysOf (W (Proc.devRef .tc main_v26)) := by
  after_reads_simp
  rfl

theorem boxes_read : after hostOps1_2 (after hostOps1_1 (after hostOps1 W)) (Proc.devRef .tc main_v22) = W (Proc.devRef .tc main_v22) := by
  after_reads_simp

theorem vals_read : after hostOps1_2 (after hostOps1_1 (after hostOps1 W)) (Proc.devRef .tc main_values) = W (Proc.devRef .tc main_values) := by
  after_reads_simp

theorem tail_read : after hostOps1_3 (after hostOps1_2 (after hostOps1_1 (after hostOps1 W))) (Proc.devRef .tc main_v52)
    = finish (W (Proc.devRef .tc main_v22)) (W (Proc.devRef .tc main_values)) (picked (W (Proc.devRef .tc main_v26))) := by
  rw [finish_read, boxes_read, vals_read, sort_read, keys_read]
  rfl

end Tail

variable (m : (ℓ : Loc nD τ sig) → Buf (Elt F) ℓ) (c : Dev nD)

/-- The result of the whole program. -/
theorem result_eq :
    Pipeline.afterTail₀ cfgs (dats m) 0 (V0 m) [hostOps1, hostOps1_1, hostOps1_2, hostOps1_3] c main_v52
      = finish (topBoxes (argB m c) (argS m c)) (topVals (argB m c) (argS m c)) (picked ((dats m 0 c).arrAt 8 cfg0.N)) := by
  unfold Pipeline.afterTail₀
  simp only [List.flatten_cons, List.flatten_nil, List.append_nil, after_append]
  rw [tail_read, Pipeline.withArrays_of_ne _ c (V0 m c) _ main_v22 (by exact (by decide : ∀ w, Pipeline.arrRef spec0 w ≠ main_v22)),
    Pipeline.withArrays_of_ne _ c (V0 m c) _ main_values (by exact (by decide : ∀ w, Pipeline.arrRef spec0 w ≠ main_values)),
    show V0 m c (Proc.devRef .tc main_v22) = _ from entry_boxes m c, show V0 m c (Proc.devRef .tc main_values) = _ from entry_vals m c]
  exact congrArg (fun row => finish _ _ (picked row))
    (Pipeline.withArrays_arr spec0 (by decide) c (V0 m c) (fun w => (dats m 0 c).arrAt w cfg0.N) 8)

end Cert.KernelIdeal.Hand

end
-- ==== Proof.Reference.Result.lean ====
/- The reference's result, as a function of the flags its loop leaves. -/
module

public import proofs.«01_k».proof.Proof.Reference.Entry

@[expose] public section

set_option maxRecDepth 16384

noncomputable section

namespace Cert.ReferenceIdeal.Hand

open Cert.ReferenceIdeal.Gen Cert.ReferenceIdeal.Value
open Idealize.ShloMosaic Idealize.ShloMosaic.TcCoe Idealize.ShloMosaic.StableHlo
open Cert.KernelIdeal.Hand (topVals topBoxes wrapped joined finish)

variable {F : FTy → Type} [FloatOps F]

/-- The scores, with those of the suppressed positions replaced by `-inf`. -/
def scored (keep : IVec S2000 1) (vals : Vec F S2000 .f32) : Vec F S2000 .f32 :=
  select keep vals (broadcastInDim S2000 ![] bcast_S_S2000 (constant (F := F) S_ .f32 0xFF800000#32))

/-- The positions of the 1000 best of them. -/
def chosen (keep : IVec S2000 1) (vals : Vec F S2000 .f32) : IVec S1000 32 :=
  (Host.topK S1000 0 (FloatOps.cmpfTotal .gt) (scored keep vals) sliceFits_S2000_S1000).2

section Tail

variable (W : (b : DevRef τ sig) → b.ty.Contents (Elt F))

theorem finish_read : after hostOps0_7 W (Proc.devRef .tc main_v94)
    = finish (W (Proc.devRef .tc main_v22)) (W (Proc.devRef .tc main_values))
        (Host.topK S1000 0 (FloatOps.cmpfTotal .gt) (W (Proc.devRef .tc main_v78) : Vec F S2000 .f32) sliceFits_S2000_S1000).2 := by
  have hb : upto hostOps0_7 W 21 (Proc.devRef .tc main_v85)
      = Host.gather gather_S2000x4_S1000x1_S1000x4_1_0_n_n_0_1_14 (W (Proc.devRef .tc main_v22))
          (wrapped (Host.topK S1000 0 (FloatOps.cmpfTotal .gt) (W (Proc.devRef .tc main_v78) : Vec F S2000 .f32) sliceFits_S2000_S1000).2) := by
    after_reads_simp
    rfl
  have hv : upto hostOps0_7 W 21 (Proc.devRef .tc main_v93)
      = broadcastInDim S1000x1 ![0] bcast_S1000_S1000x1_0 (Host.gather gather_S2000_S1000x1_S1000_n_0_n_n_0_1_1 (W (Proc.devRef .tc main_values))
          (wrapped (Host.topK S1000 0 (FloatOps.cmpfTotal .gt) (W (Proc.devRef .tc main_v78) : Vec F S2000 .f32) sliceFits_S2000_S1000).2)) := by
    after_reads_simp
    rfl
  after_reads_simp
  exact congrArg₂ joined hb hv

theorem scored_read : after hostOps0_6 (after hostOps0_5 W) (Proc.devRef .tc main_v78)
    = scored (W (Proc.devRef .tc main_v77_4)) (W (Proc.devRef .tc main_values)) := by
  after_reads_simp
  rfl

theorem tail_boxes : after hostOps0_6 (after hostOps0_5 W) (Proc.devRef .tc main_v22) = W (Proc.devRef .tc main_v22) := by
  after_reads_simp

theorem tail_vals : after hostOps0_6 (after hostOps0_5 W) (Proc.devRef .tc main_values) = W (Proc.devRef .tc main_values) := by
  after_reads_simp

end Tail

variable (m : (ℓ : Loc nD τ sig) → Buf (Elt F) ℓ) (c : Dev nD)

/-- A buffer the loop does not write leaves it as it entered. -/
theorem exit_keep (r : Ref sig .tc) (hc : r ∉ condOps_W) (hb : r ∉ while0Ops0_W) :
    after condOps (atK m 2000 c) (Proc.devRef .tc r) = entryContents (F := F) preI m c (Proc.devRef .tc r) := by
  rw [after_of_writes_sub condOps _ condOps_writes hc, trips_keep m c r hc hb 2000]

/-- The result of the whole program. -/
theorem result_eq : finalContents (F := F) condOps preI bodyI postI 2000 m c (Proc.devRef .tc main_v94)
    = finish (topBoxes (argB m c) (argS m c)) (topVals (argB m c) (argS m c))
        (chosen (atK m 2000 c (Proc.devRef .tc main_v77_4)) (topVals (argB m c) (argS m c))) := by
  simp only [finalContents, postI, afterL_cons, afterL_nil]
  rw [finish_read, scored_read, tail_boxes, tail_vals]
  rw [show atTrip condOps bodyI (entryContents preI m) 2000 c = atK m 2000 c from rfl, exit_keep m c main_v22 (by decide) (by decide),
    exit_keep m c main_values (by decide) (by decide), entry_boxes, entry_vals, cond_keeps _ main_v77_4 (by decide)]
  rfl

end Cert.ReferenceIdeal.Hand

end
-- ==== Proof.Value.Sorting.lean ====
/- Two stable sorts that agree on how a later position compares with an earlier one give the same order.

   The sort inserts each position into the sorted list of the positions after it, and asks only whether one of those
   comes before it. So a comparison's answer at a pair matters in one direction only. The second part reads a sort of
   a table by keys, and the greatest `k` entries, as one self-map of the positions. -/
module

public import Idealize.ShloMosaic.Lib.SortFacts
public import Idealize.ShloMosaic.Lib.ValueIdxRank1

@[expose] public section

namespace Cert.Sorting

open Idealize.ShloMosaic Idealize.ShloMosaic.ValueIdx

/-- On a list in increasing order, the sort asks only about a later element against an earlier one. -/
theorem stableSort_later {ι : Type} [LT ι] (R R' : ι → ι → Bool) (l : List ι) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The positions' order under two comparisons that agree on later-against-earlier is one order. -/
theorem sortedFrom_later {n : Nat} (R R' : Fin n → Fin n → Bool) (h : ∀ a b, a < b → R b a = R' b a) :
    sortedFrom R = sortedFrom R' := by
  funext k
  unfold sortedFrom
  have e : sortPositions n R = sortPositions n R' :=
    stableSort_later R R' _ (List.pairwise_lt_finRange n) h
  rw [List.get_of_eq e]
  rfl

/-- The library's two names for the rank-1 index at a position. -/
theorem ofFin_eq {n : Nat} (a : Fin n) : Shape.Idx.ofFin a = ix1 a := by
  funext d; match d with | ⟨0, _⟩ => rfl

/-- The second table of a two-table sort of rank 1, read through the positions' order. -/
theorem sort2_snd {n : Nat} {α β : Type} (cmp : α × β → α × β → BitVec 1) (x : (⟨1, ![n]⟩ : Shape).Idx → α)
    (y : (⟨1, ![n]⟩ : Shape).Idx → β) (k : Fin n) :
    (Host.sort2 ⟨1, ![n]⟩ 0 cmp x y).2 (ix1 k)
      = y (ix1 (sortedFrom (fun a b => cmp (x (ix1 a), y (ix1 a)) (x (ix1 b), y (ix1 b)) == 1#1) k)) := by
  unfold Host.sort2
  simp [ofFin_eq]

/-- The first table likewise. -/
theorem sort2_fst {n : Nat} {α β : Type} (cmp : α × β → α × β → BitVec 1) (x : (⟨1, ![n]⟩ : Shape).Idx → α)
    (y : (⟨1, ![n]⟩ : Shape).Idx → β) (k : Fin n) :
    (Host.sort2 ⟨1, ![n]⟩ 0 cmp x y).1 (ix1 k)
      = x (ix1 (sortedFrom (fun a b => cmp (x (ix1 a), y (ix1 a)) (x (ix1 b), y (ix1 b)) == 1#1) k)) := by
  unfold Host.sort2
  simp [ofFin_eq]

end Cert.Sorting
-- ==== Proof.Selection.lean ====
/- Both programs select the same 1000 positions.

   The kernel program sorts the positions, kept ones first; the reference takes the best of the scores, suppressed ones
   lowered to `-inf`. Both sorts are stable, so each asks only how a later position compares with an earlier one, and
   since the scores are in descending order and above `-inf`, both answer: the later goes first when it is kept and the
   earlier is not. -/
module

public import proofs.«01_k».proof.Proof.Region.Result
public import proofs.«01_k».proof.Proof.Reference.Result
public import proofs.«01_k».proof.Proof.Value.Sorting

@[expose] public section

set_option maxRecDepth 16384

noncomputable section

namespace Cert.Selection

open Cert.KernelIdeal Cert.KernelIdeal.Gen Cert.KernelIdeal.Hand Cert.Flags Cert.Sorting
open Cert.ReferenceIdeal.Hand (scored chosen)
open Idealize.ShloMosaic Idealize.ShloMosaic.TcCoe Idealize.ShloMosaic.ValueIdx

/-- The total order's "greater" over the extended reals. -/
theorem gt_bit (x y : EReal) : FloatOps.cmpfTotal (F := Ideal) (φ := .f32) .gt x y = 1#1 ↔ y < x := by
  show BitVec.ofBool (decide (y < x)) = 1#1 ↔ _
  rw [WordCmp.ofBool_eq_one_iff, decide_eq_true_eq]

/-- The word of `-inf` is the least extended real. -/
theorem bits_bot : Ideal.ofBits .f32 0xFF800000#32 = ⊥ := by simp [Ideal.ofBits, Ideal.ieee]

/-- The first entries of a top-k's positions: the positions' order. -/
theorem topK_snd {n k : ℕ} (x : (⟨1, ![n]⟩ : Shape).Idx → EReal) (h : (⟨1, ![n]⟩ : Shape).Slices (fun _ => 0) ⟨1, ![k]⟩) (hk : k ≤ n) (i : Fin k) :
    (Host.topK ⟨1, ![k]⟩ 0 (FloatOps.cmpfTotal (F := Ideal) (φ := .f32) .gt) x h).2 (ix1 i)
      = BitVec.ofNat 32 (sortedFrom (fun a b => FloatOps.cmpfTotal (F := Ideal) (φ := .f32) .gt (x (ix1 a)) (x (ix1 b)) == 1#1) (i.castLE hk)).val := by
  unfold Host.topK
  dsimp only
  refine (extractStridedSlice_apply (fun _ => 0) _ _ (ix1 i) (ix1 (i.castLE hk)) (by intro a; fin_cases a; exact (Nat.zero_add _).symm)).trans ?_
  exact (sort2_snd _ _ _ _).trans rfl

/-- The first entries of a top-k's values. -/
theorem topK_fst {n k : ℕ} (x : (⟨1, ![n]⟩ : Shape).Idx → EReal) (h : (⟨1, ![n]⟩ : Shape).Slices (fun _ => 0) ⟨1, ![k]⟩) (hk : k ≤ n) (i : Fin k) :
    (Host.topK ⟨1, ![k]⟩ 0 (FloatOps.cmpfTotal (F := Ideal) (φ := .f32) .gt) x h).1 (ix1 i)
      = x (ix1 (sortedFrom (fun a b => FloatOps.cmpfTotal (F := Ideal) (φ := .f32) .gt (x (ix1 a)) (x (ix1 b)) == 1#1) (i.castLE hk))) := by
  unfold Host.topK
  dsimp only
  refine (extractStridedSlice_apply (fun _ => 0) _ _ (ix1 i) (ix1 (i.castLE hk)) (by intro a; fin_cases a; exact (Nat.zero_add _).symm)).trans ?_
  exact sort2_fst _ _ _ _

/-- A top-k's values come in descending order. -/
theorem topK_descending {n k : ℕ} (x : (⟨1, ![n]⟩ : Shape).Idx → EReal) (h : (⟨1, ![n]⟩ : Shape).Slices (fun _ => 0) ⟨1, ![k]⟩) (hk : k ≤ n)
    (a b : Fin k) (hab : a < b) :
    (Host.topK ⟨1, ![k]⟩ 0 (FloatOps.cmpfTotal (F := Ideal) (φ := .f32) .gt) x h).1 (ix1 b)
      ≤ (Host.topK ⟨1, ![k]⟩ 0 (FloatOps.cmpfTotal (F := Ideal) (φ := .f32) .gt) x h).1 (ix1 a) := by
  rw [topK_fst x h hk, topK_fst x h hk]
  have hb : ∀ p q : Fin n, ((FloatOps.cmpfTotal (F := Ideal) (φ := .f32) .gt (x (ix1 p)) (x (ix1 q)) == 1#1) = true) ↔ x (ix1 q) < x (ix1 p) := fun p q => by
    rw [beq_iff_eq, gt_bit]
  have hb' : ∀ p q : Fin n, ((FloatOps.cmpfTotal (F := Ideal) (φ := .f32) .gt (x (ix1 p)) (x (ix1 q)) == 1#1) = false) ↔ x (ix1 p) ≤ x (ix1 q) := fun p q => by
    rw [← Bool.not_eq_true, hb, not_lt]
  exact (hb' _ _).1 (sortedFrom_noInversion (fun p q => FloatOps.cmpfTotal (F := Ideal) (φ := .f32) .gt (x (ix1 p)) (x (ix1 q)) == 1#1) _
    (fun p q h => (hb' _ _).2 ((hb _ _).1 h).le) (fun _ _ h => h) (fun p q r h1 h2 => (hb' _ _).2 (((hb' _ _).1 h1).trans ((hb' _ _).1 h2)))
    (a.castLE hk) (b.castLE hk) hab)

section Same

variable (row : Vec Ideal S1x2048 .f32) (keep : IVec S2000 1) (vals : Vec Ideal S2000 .f32) (K : ℕ → Prop)

/-- A kept position's key is the position, a suppressed one's is 2000 more. -/
theorem keysOf_apply (hrow : ∀ i : Fin 2048, row (ix2 0 i) = flag (K i.val)) (i : Fin 2000) :
    (K i.val → keysOf row (ix1 i) = BitVec.ofNat 32 i.val) ∧ (¬ K i.val → keysOf row (ix1 i) = BitVec.ofNat 32 (i.val + 2000)) := by
  have hi := i.isLt
  have hr : shapeCast S2000 (extractStridedSlice S1x2000 ![0, 0] row slices_S1x2048_S1x2000_0_0) shapeCasts_S1x2000_S2000 (ix1 i)
      = flag (K i.val) :=
    (shapeCast_1a_a_apply _ _ i).trans ((extractStridedSlice_apply _ _ _ _ (ix2 0 ⟨i.val, by omega⟩) (by intro a; fin_cases a <;> simp [ix2])).trans (hrow _))
  have hc : (FloatOps.cmpf (F := Ideal) (φ := .f32) .ogt
      (shapeCast S2000 (extractStridedSlice S1x2000 ![0, 0] row slices_S1x2048_S1x2000_0_0) shapeCasts_S1x2000_S2000 (ix1 i))
      (Ideal.ofBits .f32 0x3F000000#32) = 1#1) ↔ K i.val := by
    rw [hr, ofBits_half, ogt_bit, half_lt_flag]
  have hs : keysOf row (ix1 i) = Scalar.select (FloatOps.cmpf (F := Ideal) (φ := .f32) .ogt
      (shapeCast S2000 (extractStridedSlice S1x2000 ![0, 0] row slices_S1x2048_S1x2000_0_0) shapeCasts_S1x2000_S2000 (ix1 i))
      (Ideal.ofBits .f32 0x3F000000#32)) (BitVec.ofNat 32 i.val) (BitVec.ofNat 32 i.val + BitVec.ofNat 32 2000) := rfl
  constructor
  · intro h
    rw [hs, hc.2 h, select_one]
  · intro h
    rw [hs, eq_zero_of_ne_one (fun q => h (hc.1 q)), select_zero, ← BitVec.ofNat_add]

/-- The two programs' answers for a later position against an earlier one. -/
theorem answers_agree (hrow : ∀ i : Fin 2048, row (ix2 0 i) = flag (K i.val)) (hkeep : ∀ i : Fin 2000, keep (ix1 i) = 1#1 ↔ K i.val)
    (hdesc : ∀ a b : Fin 2000, a < b → vals (ix1 b) ≤ vals (ix1 a)) (hfin : ∀ a : Fin 2000, ⊥ < vals (ix1 a)) (a b : Fin 2000) (hab : a < b) :
    (comparator_i32_i32_d0 (keysOf row (ix1 b), iotaInDim S2000 32 0 (ix1 b)) (keysOf row (ix1 a), iotaInDim S2000 32 0 (ix1 a)) = 1#1)
      ↔ FloatOps.cmpfTotal (F := Ideal) (φ := .f32) .gt (scored keep vals (ix1 b)) (scored keep vals (ix1 a)) = 1#1 := by
  have ha := a.isLt
  have hb := b.isLt
  have hlt : a.val < b.val := hab
  have hs : ∀ i : Fin 2000, scored keep vals (ix1 i) = Scalar.select (keep (ix1 i)) (vals (ix1 i)) ⊥ := fun i => by
    rw [← bits_bot]; rfl
  show IntOp.cmpi .slt (keysOf row (ix1 b)) (keysOf row (ix1 a)) = 1#1 ↔ _
  rw [gt_bit, hs, hs]
  by_cases hB : K b.val
  · rw [(keysOf_apply row K hrow b).1 hB, (hkeep b).2 hB, select_one]
    by_cases hA : K a.val
    · rw [(keysOf_apply row K hrow a).1 hA, (hkeep a).2 hA, select_one, WordCmp.cmpi_slt_ofNat_eq_one_iff (by omega) (by omega)]
      exact ⟨fun h => absurd h (by omega), fun h => absurd h (not_lt.2 (hdesc a b hab))⟩
    · rw [(keysOf_apply row K hrow a).2 hA, eq_zero_of_ne_one (fun q => hA ((hkeep a).1 q)), select_zero,
        WordCmp.cmpi_slt_ofNat_eq_one_iff (by omega) (by omega)]
      exact ⟨fun _ => hfin b, fun _ => by omega⟩
  · rw [(keysOf_apply row K hrow b).2 hB, eq_zero_of_ne_one (fun q => hB ((hkeep b).1 q)), select_zero]
    refine ⟨fun h => absurd h ?_, fun h => absurd h not_lt_bot⟩
    by_cases hA : K a.val
    · rw [(keysOf_apply row K hrow a).1 hA, WordCmp.cmpi_slt_ofNat_eq_one_iff (by omega) (by omega)]
      omega
    · rw [(keysOf_apply row K hrow a).2 hA, WordCmp.cmpi_slt_ofNat_eq_one_iff (by omega) (by omega)]
      omega

/-- The selections are equal. -/
theorem picked_eq_chosen (hrow : ∀ i : Fin 2048, row (ix2 0 i) = flag (K i.val)) (hkeep : ∀ i : Fin 2000, keep (ix1 i) = 1#1 ↔ K i.val)
    (hdesc : ∀ a b : Fin 2000, a < b → vals (ix1 b) ≤ vals (ix1 a)) (hfin : ∀ a : Fin 2000, ⊥ < vals (ix1 a)) :
    picked row = chosen keep vals := by
  funext j
  rw [eq_ix1 j]
  generalize j 0 = i
  refine Eq.trans ?_ (topK_snd (scored keep vals) _ (by decide) i).symm
  unfold picked
  refine (extractStridedSlice_apply _ _ _ (ix1 i) (ix1 (i.castLE (by decide))) (by intro a; fin_cases a; exact (Nat.zero_add _).symm)).trans ?_
  refine (sort2_snd _ _ _ _).trans ?_
  rw [sortedFrom_later _ (fun a b => FloatOps.cmpfTotal (F := Ideal) (φ := .f32) .gt (scored keep vals (ix1 a)) (scored keep vals (ix1 b)) == 1#1)
    (fun a b hab => by
      rw [Bool.eq_iff_iff, beq_iff_eq, beq_iff_eq]
      exact answers_agree row keep vals K hrow hkeep hdesc hfin a b hab)]
  rfl

end Same

end Cert.Selection

end
-- ==== Proof.Algebraic.lean ====
/- The two programs end with equal results, over the extended reals.

   Both results are the same `finish` of the same best boxes and scores, at a selection; the selections are equal since
   both programs keep the same positions. -/
module

public import proofs.«01_k».proof.Defs
public import proofs.«01_k».proof.Proof.Precondition
public import proofs.«01_k».proof.Proof.Reference.Frame
public import proofs.«01_k».proof.Proof.Reference.Trips
public import proofs.«01_k».proof.Proof.Region.Row
public import proofs.«01_k».proof.Proof.Selection

@[expose] public section

set_option maxRecDepth 16384

noncomputable section

namespace Cert.Proof

open Cert.KernelIdeal.Hand Cert.Selection Cert.Suppress
open Idealize.ShloMosaic Idealize.ShloMosaic.TcCoe Idealize.ShloMosaic.ValueIdx

/-- Under the precondition every one of the best scores is above `-inf`. -/
theorem above_bot (b : Vec Ideal Cert.KernelIdeal.S20000x4 .f32) (s : Vec Ideal Cert.KernelIdeal.S20000 .f32)
    (h : Cert.Pre_enough_candidates.fn (F := Ideal) b s = fun _ => 1#1) (a : Fin 2000) : ⊥ < topVals b s (ix1 a) := by
  have h1 : FloatOps.cmpf (F := Ideal) (φ := .f32) .ogt (topVals b s (ix1 a)) (Ideal.ofBits .f32 0xFF800000#32) = 1#1 := congrFun h (ix1 a)
  rwa [Cert.Flags.ogt_bit, bits_bot] at h1

/-- The reference's result is the kernel program's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_enough_candidates.fn (F := Ideal) (argB m c) (argS m c) = fun _ => 1#1)
    (hB : Cert.ReferenceIdeal.Hand.argB m' c = argB m c) (hS : Cert.ReferenceIdeal.Hand.argS m' c = argS m c) :
    finish (topBoxes (Cert.ReferenceIdeal.Hand.argB m' c) (Cert.ReferenceIdeal.Hand.argS m' c))
        (topVals (Cert.ReferenceIdeal.Hand.argB m' c) (Cert.ReferenceIdeal.Hand.argS m' c))
        (Cert.ReferenceIdeal.Hand.chosen (Cert.ReferenceIdeal.Value.atK m' 2000 c (Proc.devRef .tc Cert.ReferenceIdeal.main_v77_4))
          (topVals (Cert.ReferenceIdeal.Hand.argB m' c) (Cert.ReferenceIdeal.Hand.argS m' c)))
      = finish (topBoxes (argB m c) (argS m c)) (topVals (argB m c) (argS m c)) (picked ((dats m 0 c).arrAt 8 Cert.KernelIdeal.cfg0.N)) := by
  have hk := Cert.ReferenceIdeal.Hand.trips_flags m' c 2000 le_rfl
  rw [hB, hS] at hk ⊢
  rw [picked_eq_chosen _ _ (topVals (argB m c) (argS m c)) (Kept 2000 (Hits (boxOf (topBoxes (argB m c) (argS m c)))))
    (row_apply m c _ (loaded m c)) (fun i => (hk i).trans ⟨fun h => h i.isLt, fun h _ => h⟩)
    (fun a b hab => topK_descending (masked (argB m c) (argS m c)) _ (by decide) a b hab) (above_bot _ _ hpre)]

/-- Equal results from equal arguments, the arguments unchanged. -/
theorem algebraic : Cert.algebraic_KernelIdeal_ReferenceIdeal_pre_enough_candidates := by
  intro m g m' g' hpre hargs
  refine ⟨fun c => finish (topBoxes (argB m c) (argS m c)) (topVals (argB m c) (argS m c)) (picked ((dats m 0 c).arrAt 8 Cert.KernelIdeal.cfg0.N)), ?_, ?_⟩
  · exact (θ_run Cert.KernelIdeal.defs _ _).mono (fun _ h c =>
      ⟨((h.1 c).2 Cert.KernelIdeal.main_v52 (Pipeline.mem_restRefs_of Cert.KernelIdeal.main_v52 (by decide) (by decide))).trans (Cert.KernelIdeal.Hand.result_eq m c),
       ((h.1 c).2 Cert.KernelIdeal.main_arg0 (Pipeline.mem_restRefs_of Cert.KernelIdeal.main_arg0 (by decide) (by decide))).trans (Cert.KernelIdeal.Gen.W_main_arg0 m (dats m) c),
       ((h.1 c).2 Cert.KernelIdeal.main_arg1 (Pipeline.mem_restRefs_of Cert.KernelIdeal.main_arg1 (by decide) (by decide))).trans (Cert.KernelIdeal.Gen.W_main_arg1 m (dats m) c)⟩)
      (run_main m g)
  · exact (θ_run Cert.ReferenceIdeal.defs _ _).mono (fun _ h c =>
      ⟨((h c Cert.ReferenceIdeal.main_v94 rfl).trans (Cert.ReferenceIdeal.Hand.result_eq m' c)).trans
          (results_agree m m' c (hpre c) (hargs c).1 (hargs c).2),
       (h c Cert.ReferenceIdeal.main_arg0 rfl).trans (Cert.ReferenceIdeal.Hand.final_keep m' c Cert.ReferenceIdeal.main_arg0 (by decide) (by decide) (by decide) (by decide) (by decide) (by decide)),
       (h c Cert.ReferenceIdeal.main_arg1 rfl).trans (Cert.ReferenceIdeal.Hand.final_keep m' c Cert.ReferenceIdeal.main_arg1 (by decide) (by decide) (by decide) (by decide) (by decide) (by decide))⟩)
      (Cert.ReferenceIdeal.Value.run_fold m' g')

end Cert.Proof

end
-- ==== Proof.lean ====
module

public import proofs.«01_k».proof.Defs
public import proofs.«01_k».proof.Proof.KernelFrame
public import proofs.«01_k».proof.Proof.Algebraic
public import proofs.«01_k».proof.Proof.Region.Run
public import proofs.«01_k».proof.Proof.Reference.Frame

@[expose] public section

namespace Cert.Proof

open Idealize.ShloMosaic

theorem claim : Cert.Claim :=
  ⟨Cert.Kernel.Gen.facts, Cert.KernelIdeal.Gen.facts, Cert.ReferenceIdeal.Gen.facts, Cert.Pre_enough_candidates.Hand.facts,
   kernel_frame,
   fun m ρ _ => Cert.KernelIdeal.Hand.frame m ρ,
   fun m ρ _ => Cert.KernelIdeal.Hand.frame m ρ,
   fun m ρ _ => Cert.ReferenceIdeal.Hand.frame m ρ,
   fun m ρ _ => Cert.ReferenceIdeal.Hand.frame m ρ,
   trivial,
   algebraic⟩

end Cert.Proof

end
